-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_guide_in_range [hPre_guide_in_range : Cert.Pre_guide_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_guide_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_guide_in_range [hPre_guide_in_range : Cert.Pre_guide_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_guide_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_guide_in_range [hKernelIdeal : Cert.KernelIdeal.Facts] [hPre_guide_in_range : Cert.Pre_guide_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_guide_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_guide_in_range [hReferenceIdeal : Cert.ReferenceIdeal.Facts] [hPre_guide_in_range : Cert.Pre_guide_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_guide_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_guide_in_range [hKernelIdeal : Cert.KernelIdeal.Facts] [hReferenceIdeal : Cert.ReferenceIdeal.Facts] [hPre_guide_in_range : Cert.Pre_guide_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_guide_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v368) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_guide_in_range : Cert.Pre_guide_in_range.Facts),
    quiescent_Kernel (hKernel := hKernel)
    ∧ quiescent_KernelIdeal (hKernelIdeal := hKernelIdeal)
    ∧ quiescent_KernelIdeal_pre_guide_in_range (hKernelIdeal := hKernelIdeal) (hPre_guide_in_range := hPre_guide_in_range)
    ∧ quiescent_ReferenceIdeal (hReferenceIdeal := hReferenceIdeal)
    ∧ quiescent_ReferenceIdeal_pre_guide_in_range (hReferenceIdeal := hReferenceIdeal) (hPre_guide_in_range := hPre_guide_in_range)
    ∧ preserves_Kernel_KernelIdeal
    ∧ algebraic_KernelIdeal_ReferenceIdeal_pre_guide_in_range (hKernelIdeal := hKernelIdeal) (hReferenceIdeal := hReferenceIdeal) (hPre_guide_in_range := hPre_guide_in_range)
-- ==== Pre_guide_in_range.lean ====
abbrev S4x12x8x16x16 : Shape := ⟨5, ![4, 12, 8, 16, 16]⟩
abbrev S4x1x512x512 : Shape := ⟨4, ![4, 1, 512, 512]⟩
abbrev S_ : Shape := ⟨0, ![]⟩

class Facts : Prop where
  bcast_S_S4x1x512x512 : S_.BroadcastsInDim S4x1x512x512 (![] : Fin 0 → Fin S4x1x512x512.rank)

variable [Facts]

def fn {F : FTy → Type} [FloatOps F] (main_arg0 : FVec F S4x12x8x16x16 .f32) (main_arg1 : FVec F S4x1x512x512 .f32) : IVec S4x1x512x512 1 :=
  let main_cst : FVec F S_ .f32 := constant S_ .f32 0xFF800000#32
  let main_v0 : FVec F S4x1x512x512 .f32 := broadcastInDim S4x1x512x512 ![] bcast_S_S4x1x512x512 main_cst
  let main_v1 : IVec S4x1x512x512 1 := cmpf .ogt main_arg1 main_v0
  let main_cst_0 : FVec F S_ .f32 := constant S_ .f32 0x4D7FFFFF#32
  let main_v2 : FVec F S4x1x512x512 .f32 := broadcastInDim S4x1x512x512 ![] bcast_S_S4x1x512x512 main_cst_0
  let main_v3 : IVec S4x1x512x512 1 := cmpf .ole main_arg1 main_v2
  let main_v4 : IVec S4x1x512x512 1 := andi main_v1 main_v3
  main_v4
-- ==== Kernel.lean ====
abbrev S4x12x8x16x16 : Shape := ⟨5, ![4, 12, 8, 16, 16]⟩
abbrev S4x1x512x512 : Shape := ⟨4, ![4, 1, 512, 512]⟩
abbrev S4x16x8x12x16 : Shape := ⟨5, ![4, 16, 8, 12, 16]⟩
abbrev S4x16x96x16 : Shape := ⟨4, ![4, 16, 96, 16]⟩
abbrev S512 : Shape := ⟨1, ![512]⟩
abbrev S_ : Shape := ⟨0, ![]⟩
abbrev S16x16 : Shape := ⟨2, ![16, 16]⟩
abbrev S512x1 : Shape := ⟨2, ![512, 1]⟩
abbrev S512x16 : Shape := ⟨2, ![512, 16]⟩
abbrev S16x512 : Shape := ⟨2, ![16, 512]⟩
abbrev S4x12x512x512 : Shape := ⟨4, ![4, 12, 512, 512]⟩
abbrev S1x1x96x16 : Shape := ⟨4, ![1, 1, 96, 16]⟩
abbrev S1x1x256x512 : Shape := ⟨4, ![1, 1, 256, 512]⟩
abbrev S1x12x256x512 : Shape := ⟨4, ![1, 12, 256, 512]⟩
abbrev S96x16 : Shape := ⟨2, ![96, 16]⟩
abbrev S96x512 : Shape := ⟨2, ![96, 512]⟩
abbrev S16x1 : Shape := ⟨2, ![16, 1]⟩
abbrev S256x512 : Shape := ⟨2, ![256, 512]⟩
abbrev S1x512 : Shape := ⟨2, ![1, 512]⟩
abbrev S1x1x16x512 : Shape := ⟨4, ![1, 1, 16, 512]⟩

abbrev nBuf : Space → Nat
  | .hbm => 79
  | .vmem => 25
  | .smem => 0
  | _ => 0

abbrev bufTy : (tb : Table) → Fin (tcTables nBuf tb) → BufTy
  | .hbm, ⟨0, _⟩ => ⟨S4x12x8x16x16, .f32⟩
  | .hbm, ⟨1, _⟩ => ⟨S4x1x512x512, .f32⟩
  | .hbm, ⟨2, _⟩ => ⟨S4x16x8x12x16, .f32⟩
  | .hbm, ⟨3, _⟩ => ⟨S4x16x96x16, .f32⟩
  | .hbm, ⟨4, _⟩ => ⟨S4x16x96x16, .bf16⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S16x16, .i32⟩
  | .hbm, ⟨42, _⟩ => ⟨S16x16, .i32⟩
  | .hbm, ⟨43, _⟩ => ⟨S_, .i32⟩
  | .hbm, ⟨44, _⟩ => ⟨S16x16, .i32⟩
  | .hbm, ⟨45, _⟩ => ⟨S16x16, .i32⟩
  | .hbm, ⟨46, _⟩ => ⟨S16x16, .i1⟩
  | .hbm, ⟨47, _⟩ => ⟨S16x16, .f32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x16, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S512x16, .f32⟩
  | .hbm, ⟨62, _⟩ => ⟨S512x16, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S512x1, .i32⟩
  | .hbm, ⟨71, _⟩ => ⟨S512x16, .f32⟩
  | .hbm, ⟨72, _⟩ => ⟨S512x1, .f32⟩
  | .hbm, ⟨73, _⟩ => ⟨S512x16, .f32⟩
  | .hbm, ⟨74, _⟩ => ⟨S512x16, .f32⟩
  | .hbm, ⟨75, _⟩ => ⟨S512x16, .f32⟩
  | .hbm, ⟨76, _⟩ => ⟨S16x512, .f32⟩
  | .hbm, ⟨77, _⟩ => ⟨S16x512, .bf16⟩
  | .hbm, ⟨78, _⟩ => ⟨S4x12x512x512, .f32⟩
  | .local _ .vmem, ⟨0, _⟩ => ⟨S1x1x96x16, .bf16⟩
  | .local _ .vmem, ⟨1, _⟩ => ⟨S1x1x96x16, .bf16⟩
  | .local _ .vmem, ⟨2, _⟩ => ⟨S1x1x96x16, .bf16⟩
  | .local _ .vmem, ⟨3, _⟩ => ⟨S1x1x96x16, .bf16⟩
  | .local _ .vmem, ⟨4, _⟩ => ⟨S1x1x96x16, .bf16⟩
  | .local _ .vmem, ⟨5, _⟩ => ⟨S1x1x96x16, .bf16⟩
  | .local _ .vmem, ⟨6, _⟩ => ⟨S1x1x96x16, .bf16⟩
  | .local _ .vmem, ⟨7, _⟩ => ⟨S1x1x96x16, .bf16⟩
  | .local _ .vmem, ⟨8, _⟩ => ⟨S1x1x96x16, .bf16⟩
  | .local _ .vmem, ⟨9, _⟩ => ⟨S1x1x96x16, .bf16⟩
  | .local _ .vmem, ⟨10, _⟩ => ⟨S1x1x96x16, .bf16⟩
  | .local _ .vmem, ⟨11, _⟩ => ⟨S1x1x96x16, .bf16⟩
  | .local _ .vmem, ⟨12, _⟩ => ⟨S1x1x96x16, .bf16⟩
  | .local _ .vmem, ⟨13, _⟩ => ⟨S1x1x96x16, .bf16⟩
  | .local _ .vmem, ⟨14, _⟩ => ⟨S1x1x96x16, .bf16⟩
  | .local _ .vmem, ⟨15, _⟩ => ⟨S1x1x96x16, .bf16⟩
  | .local _ .vmem, ⟨16, _⟩ => ⟨S1x1x96x16, .bf16⟩
  | .local _ .vmem, ⟨17, _⟩ => ⟨S1x1x96x16, .bf16⟩
  | .local _ .vmem, ⟨18, _⟩ => ⟨S1x1x96x16, .bf16⟩
  | .local _ .vmem, ⟨19, _⟩ => ⟨S1x1x96x16, .bf16⟩
  | .local _ .vmem, ⟨20, _⟩ => ⟨S16x512, .bf16⟩
  | .local _ .vmem, ⟨21, _⟩ => ⟨S1x1x256x512, .f32⟩
  | .local _ .vmem, ⟨22, _⟩ => ⟨S1x1x256x512, .f32⟩
  | .local _ .vmem, ⟨23, _⟩ => ⟨S1x12x256x512, .f32⟩
  | .local _ .vmem, ⟨24, _⟩ => ⟨S1x12x256x512, .f32⟩
  | _, _ => ⟨S4x12x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c4_i32 : BitVec 32 := 4#32
  let v1 : BitVec 32 := Scalar.addi v0 c4_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c5_i32 : BitVec 32 := 5#32
  let v1 : BitVec 32 := Scalar.addi v0 c5_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c6_i32 : BitVec 32 := 6#32
  let v1 : BitVec 32 := Scalar.addi v0 c6_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c7_i32 : BitVec 32 := 7#32
  let v1 : BitVec 32 := Scalar.addi v0 c7_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c9_i32 : BitVec 32 := 9#32
  let v1 : BitVec 32 := Scalar.addi v0 c9_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x96x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x96x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x96x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x96x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x96x16 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x96x16 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x96x16 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S16x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x12x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x12x8x16x16 : Shape := ⟨5, ![4, 12, 8, 16, 16]⟩
abbrev S4x1x512x512 : Shape := ⟨4, ![4, 1, 512, 512]⟩
abbrev S4x16x16x8x12 : Shape := ⟨5, ![4, 16, 16, 8, 12]⟩
abbrev S4x512x512 : Shape := ⟨3, ![4, 512, 512]⟩
abbrev S512 : Shape := ⟨1, ![512]⟩
abbrev S_ : Shape := ⟨0, ![]⟩
abbrev S4 : Shape := ⟨1, ![4]⟩
abbrev S4x1x1 : Shape := ⟨3, ![4, 1, 1]⟩
abbrev S1x512x1 : Shape := ⟨3, ![1, 512, 1]⟩
abbrev S1x1x512 : Shape := ⟨3, ![1, 1, 512]⟩
abbrev S1x1x512x1 : Shape := ⟨4, ![1, 1, 512, 1]⟩
abbrev S1x512x1x1 : Shape := ⟨4, ![1, 512, 1, 1]⟩
abbrev S4x512x512x1 : Shape := ⟨4, ![4, 512, 512, 1]⟩
abbrev S4x512x512x4 : Shape := ⟨4, ![4, 512, 512, 4]⟩
abbrev S4x512x512x12 : Shape := ⟨4, ![4, 512, 512, 12]⟩
abbrev S4x12x512x512 : Shape := ⟨4, ![4, 12, 512, 512]⟩

abbrev nBuf : Space → Nat
  | .hbm => 502
  | .vmem => 0
  | .smem => 0
  | _ => 0

abbrev hbmTy0_0 (i : Nat) : BufTy := match i % 128 with
  | 0 => ⟨S4x12x8x16x16, .f32⟩
  | 1 => ⟨S4x1x512x512, .f32⟩
  | 2 => ⟨S4x16x16x8x12, .f32⟩
  | 3 => ⟨S4x512x512, .f32⟩
  | 4 => ⟨S512, .f32⟩
  | 5 => ⟨S_, .f32⟩
  | 6 => ⟨S512, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S_, .f32⟩
  | 22 => ⟨S512, .f32⟩
  | 23 => ⟨S512, .f32⟩
  | 24 => ⟨S_, .f32⟩
  | 25 => ⟨S512, .f32⟩
  | 26 => ⟨S512, .f32⟩
  | 27 => ⟨S_, .f32⟩
  | 28 => ⟨S512, .f32⟩
  | 29 => ⟨S512, .f32⟩
  | 30 => ⟨S_, .f32⟩
  | 31 => ⟨S4x512x512, .f32⟩
  | 32 => ⟨S4x512x512, .f32⟩
  | 33 => ⟨S_, .f32⟩
  | 34 => ⟨S4x512x512, .f32⟩
  | 35 => ⟨S4x512x512, .f32⟩
  | 36 => ⟨S512, .f32⟩
  | 37 => ⟨S512, .f32⟩
  | 38 => ⟨S4x512x512, .f32⟩
  | 39 => ⟨S512, .f32⟩
  | 40 => ⟨S512, .f32⟩
  | 41 => ⟨S4x512x512, .f32⟩
  | 42 => ⟨S512, .i32⟩
  | 43 => ⟨S_, .i32⟩
  | 44 => ⟨S_, .i32⟩
  | 45 => ⟨S_, .i32⟩
  | 46 => ⟨S512, .i32⟩
  | 47 => ⟨S512, .i32⟩
  | 48 => ⟨S_, .i32⟩
  | 49 => ⟨S512, .i32⟩
  | 50 => ⟨S512, .i32⟩
  | 51 => ⟨S512, .i32⟩
  | 52 => ⟨S_, .i32⟩
  | 53 => ⟨S512, .i32⟩
  | 54 => ⟨S512, .i32⟩
  | 55 => ⟨S_, .i32⟩
  | 56 => ⟨S_, .i32⟩
  | 57 => ⟨S_, .i32⟩
  | 58 => ⟨S512, .i32⟩
  | 59 => ⟨S512, .i32⟩
  | 60 => ⟨S_, .i32⟩
  | 61 => ⟨S512, .i32⟩
  | 62 => ⟨S512, .i32⟩
  | 63 => ⟨S512, .i32⟩
  | 64 => ⟨S_, .i32⟩
  | 65 => ⟨S_, .i32⟩
  | 66 => ⟨S_, .i32⟩
  | 67 => ⟨S512, .i32⟩
  | 68 => ⟨S512, .i32⟩
  | 69 => ⟨S_, .i32⟩
  | 70 => ⟨S512, .i32⟩
  | 71 => ⟨S512, .i32⟩
  | 72 => ⟨S512, .i32⟩
  | 73 => ⟨S_, .i32⟩
  | 74 => ⟨S512, .i32⟩
  | 75 => ⟨S512, .i32⟩
  | 76 => ⟨S_, .i32⟩
  | 77 => ⟨S_, .i32⟩
  | 78 => ⟨S_, .i32⟩
  | 79 => ⟨S512, .i32⟩
  | 80 => ⟨S512, .i32⟩
  | 81 => ⟨S_, .i32⟩
  | 82 => ⟨S512, .i32⟩
  | 83 => ⟨S512, .i32⟩
  | 84 => ⟨S4x512x512, .i32⟩
  | 85 => ⟨S_, .i32⟩
  | 86 => ⟨S_, .i32⟩
  | 87 => ⟨S_, .i32⟩
  | 88 => ⟨S4x512x512, .i32⟩
  | 89 => ⟨S4x512x512, .i32⟩
  | 90 => ⟨S_, .i32⟩
  | 91 => ⟨S4x512x512, .i32⟩
  | 92 => ⟨S4x512x512, .i32⟩
  | 93 => ⟨S4x512x512, .i32⟩
  | 94 => ⟨S_, .i32⟩
  | 95 => ⟨S4x512x512, .i32⟩
  | 96 => ⟨S4x512x512, .i32⟩
  | 97 => ⟨S_, .i32⟩
  | 98 => ⟨S_, .i32⟩
  | 99 => ⟨S_, .i32⟩
  | 100 => ⟨S4x512x512, .i32⟩
  | 101 => ⟨S4x512x512, .i32⟩
  | 102 => ⟨S_, .i32⟩
  | 103 => ⟨S4x512x512, .i32⟩
  | 104 => ⟨S4x512x512, .i32⟩
  | 105 => ⟨S4, .i32⟩
  | 106 => ⟨S4x1x1, .i32⟩
  | 107 => ⟨S1x512x1, .i32⟩
  | 108 => ⟨S1x512x1, .i32⟩
  | 109 => ⟨S1x1x512, .i32⟩
  | 110 => ⟨S1x1x512, .i32⟩
  | 111 => ⟨S1x1x512x1, .f32⟩
  | 112 => ⟨S1x512x1x1, .f32⟩
  | 113 => ⟨S4x512x512x1, .f32⟩
  | 114 => ⟨S_, .i32⟩
  | 115 => ⟨S4x1x1, .i32⟩
  | 116 => ⟨S4x1x1, .i1⟩
  | 117 => ⟨S_, .i32⟩
  | 118 => ⟨S4x1x1, .i32⟩
  | 119 => ⟨S4x1x1, .i32⟩
  | 120 => ⟨S4x1x1, .i32⟩
  | 121 => ⟨S_, .i32⟩
  | 122 => ⟨S1x512x1, .i32⟩
  | 123 => ⟨S1x512x1, .i1⟩
  | 124 => ⟨S_, .i32⟩
  | 125 => ⟨S1x512x1, .i32⟩
  | 126 => ⟨S1x512x1, .i32⟩
  | 127 => ⟨S1x512x1, .i32⟩
  | _ => ⟨S4x12x8x16x16, .f32⟩

abbrev hbmTy0_1 (i : Nat) : BufTy := match i % 128 with
  | 0 => ⟨S_, .i32⟩
  | 1 => ⟨S1x1x512, .i32⟩
  | 2 => ⟨S1x1x512, .i1⟩
  | 3 => ⟨S_, .i32⟩
  | 4 => ⟨S1x1x512, .i32⟩
  | 5 => ⟨S1x1x512, .i32⟩
  | 6 => ⟨S1x1x512, .i32⟩
  | 7 => ⟨S_, .i32⟩
  | 8 => ⟨S4x512x512, .i32⟩
  | 9 => ⟨S4x512x512, .i1⟩
  | 10 => ⟨S_, .i32⟩
  | 11 => ⟨S4x512x512, .i32⟩
  | 12 => ⟨S4x512x512, .i32⟩
  | 13 => ⟨S4x512x512, .i32⟩
  | 14 => ⟨S4x512x512, .i32⟩
  | 15 => ⟨S4x512x512, .i32⟩
  | 16 => ⟨S4x512x512, .i32⟩
  | 17 => ⟨S4x512x512x1, .i32⟩
  | 18 => ⟨S4x512x512x1, .i32⟩
  | 19 => ⟨S4x512x512x1, .i32⟩
  | 20 => ⟨S4x512x512x1, .i32⟩
  | 21 => ⟨S4x512x512x4, .i32⟩
  | 22 => ⟨S4x512x512x12, .f32⟩
  | 23 => ⟨S_, .f32⟩
  | 24 => ⟨S1x512x1x1, .f32⟩
  | 25 => ⟨S1x512x1x1, .f32⟩
  | 26 => ⟨S4x512x512x12, .f32⟩
  | 27 => ⟨S4x512x512x12, .f32⟩
  | 28 => ⟨S_, .f32⟩
  | 29 => ⟨S1x1x512x1, .f32⟩
  | 30 => ⟨S1x1x512x1, .f32⟩
  | 31 => ⟨S4x512x512x12, .f32⟩
  | 32 => ⟨S4x512x512x12, .f32⟩
  | 33 => ⟨S_, .f32⟩
  | 34 => ⟨S4x512x512x1, .f32⟩
  | 35 => ⟨S4x512x512x1, .f32⟩
  | 36 => ⟨S4x512x512x12, .f32⟩
  | 37 => ⟨S4x512x512x12, .f32⟩
  | 38 => ⟨S_, .i32⟩
  | 39 => ⟨S4x1x1, .i32⟩
  | 40 => ⟨S4x1x1, .i1⟩
  | 41 => ⟨S_, .i32⟩
  | 42 => ⟨S4x1x1, .i32⟩
  | 43 => ⟨S4x1x1, .i32⟩
  | 44 => ⟨S4x1x1, .i32⟩
  | 45 => ⟨S_, .i32⟩
  | 46 => ⟨S1x512x1, .i32⟩
  | 47 => ⟨S1x512x1, .i1⟩
  | 48 => ⟨S_, .i32⟩
  | 49 => ⟨S1x512x1, .i32⟩
  | 50 => ⟨S1x512x1, .i32⟩
  | 51 => ⟨S1x512x1, .i32⟩
  | 52 => ⟨S_, .i32⟩
  | 53 => ⟨S1x1x512, .i32⟩
  | 54 => ⟨S1x1x512, .i1⟩
  | 55 => ⟨S_, .i32⟩
  | 56 => ⟨S1x1x512, .i32⟩
  | 57 => ⟨S1x1x512, .i32⟩
  | 58 => ⟨S1x1x512, .i32⟩
  | 59 => ⟨S_, .i32⟩
  | 60 => ⟨S4x512x512, .i32⟩
  | 61 => ⟨S4x512x512, .i1⟩
  | 62 => ⟨S_, .i32⟩
  | 63 => ⟨S4x512x512, .i32⟩
  | 64 => ⟨S4x512x512, .i32⟩
  | 65 => ⟨S4x512x512, .i32⟩
  | 66 => ⟨S4x512x512, .i32⟩
  | 67 => ⟨S4x512x512, .i32⟩
  | 68 => ⟨S4x512x512, .i32⟩
  | 69 => ⟨S4x512x512x1, .i32⟩
  | 70 => ⟨S4x512x512x1, .i32⟩
  | 71 => ⟨S4x512x512x1, .i32⟩
  | 72 => ⟨S4x512x512x1, .i32⟩
  | 73 => ⟨S4x512x512x4, .i32⟩
  | 74 => ⟨S4x512x512x12, .f32⟩
  | 75 => ⟨S_, .f32⟩
  | 76 => ⟨S1x512x1x1, .f32⟩
  | 77 => ⟨S1x512x1x1, .f32⟩
  | 78 => ⟨S4x512x512x12, .f32⟩
  | 79 => ⟨S4x512x512x12, .f32⟩
  | 80 => ⟨S_, .f32⟩
  | 81 => ⟨S1x1x512x1, .f32⟩
  | 82 => ⟨S1x1x512x1, .f32⟩
  | 83 => ⟨S4x512x512x12, .f32⟩
  | 84 => ⟨S4x512x512x12, .f32⟩
  | 85 => ⟨S4x512x512x12, .f32⟩
  | 86 => ⟨S4x512x512x12, .f32⟩
  | 87 => ⟨S4x512x512x12, .f32⟩
  | 88 => ⟨S_, .i32⟩
  | 89 => ⟨S4x1x1, .i32⟩
  | 90 => ⟨S4x1x1, .i1⟩
  | 91 => ⟨S_, .i32⟩
  | 92 => ⟨S4x1x1, .i32⟩
  | 93 => ⟨S4x1x1, .i32⟩
  | 94 => ⟨S4x1x1, .i32⟩
  | 95 => ⟨S_, .i32⟩
  | 96 => ⟨S1x512x1, .i32⟩
  | 97 => ⟨S1x512x1, .i1⟩
  | 98 => ⟨S_, .i32⟩
  | 99 => ⟨S1x512x1, .i32⟩
  | 100 => ⟨S1x512x1, .i32⟩
  | 101 => ⟨S1x512x1, .i32⟩
  | 102 => ⟨S_, .i32⟩
  | 103 => ⟨S1x1x512, .i32⟩
  | 104 => ⟨S1x1x512, .i1⟩
  | 105 => ⟨S_, .i32⟩
  | 106 => ⟨S1x1x512, .i32⟩
  | 107 => ⟨S1x1x512, .i32⟩
  | 108 => ⟨S1x1x512, .i32⟩
  | 109 => ⟨S_, .i32⟩
  | 110 => ⟨S4x512x512, .i32⟩
  | 111 => ⟨S4x512x512, .i1⟩
  | 112 => ⟨S_, .i32⟩
  | 113 => ⟨S4x512x512, .i32⟩
  | 114 => ⟨S4x512x512, .i32⟩
  | 115 => ⟨S4x512x512, .i32⟩
  | 116 => ⟨S4x512x512, .i32⟩
  | 117 => ⟨S4x512x512, .i32⟩
  | 118 => ⟨S4x512x512, .i32⟩
  | 119 => ⟨S4x512x512x1, .i32⟩
  | 120 => ⟨S4x512x512x1, .i32⟩
  | 121 => ⟨S4x512x512x1, .i32⟩
  | 122 => ⟨S4x512x512x1, .i32⟩
  | 123 => ⟨S4x512x512x4, .i32⟩
  | 124 => ⟨S4x512x512x12, .f32⟩
  | 125 => ⟨S_, .f32⟩
  | 126 => ⟨S1x512x1x1, .f32⟩
  | 127 => ⟨S1x512x1x1, .f32⟩
  | _ => ⟨S4x12x8x16x16, .f32⟩

abbrev hbmTy0_2 (i : Nat) : BufTy := match i % 128 with
  | 0 => ⟨S4x512x512x12, .f32⟩
  | 1 => ⟨S4x512x512x12, .f32⟩
  | 2 => ⟨S4x512x512x12, .f32⟩
  | 3 => ⟨S4x512x512x12, .f32⟩
  | 4 => ⟨S_, .f32⟩
  | 5 => ⟨S4x512x512x1, .f32⟩
  | 6 => ⟨S4x512x512x1, .f32⟩
  | 7 => ⟨S4x512x512x12, .f32⟩
  | 8 => ⟨S4x512x512x12, .f32⟩
  | 9 => ⟨S4x512x512x12, .f32⟩
  | 10 => ⟨S_, .i32⟩
  | 11 => ⟨S4x1x1, .i32⟩
  | 12 => ⟨S4x1x1, .i1⟩
  | 13 => ⟨S_, .i32⟩
  | 14 => ⟨S4x1x1, .i32⟩
  | 15 => ⟨S4x1x1, .i32⟩
  | 16 => ⟨S4x1x1, .i32⟩
  | 17 => ⟨S_, .i32⟩
  | 18 => ⟨S1x512x1, .i32⟩
  | 19 => ⟨S1x512x1, .i1⟩
  | 20 => ⟨S_, .i32⟩
  | 21 => ⟨S1x512x1, .i32⟩
  | 22 => ⟨S1x512x1, .i32⟩
  | 23 => ⟨S1x512x1, .i32⟩
  | 24 => ⟨S_, .i32⟩
  | 25 => ⟨S1x1x512, .i32⟩
  | 26 => ⟨S1x1x512, .i1⟩
  | 27 => ⟨S_, .i32⟩
  | 28 => ⟨S1x1x512, .i32⟩
  | 29 => ⟨S1x1x512, .i32⟩
  | 30 => ⟨S1x1x512, .i32⟩
  | 31 => ⟨S_, .i32⟩
  | 32 => ⟨S4x512x512, .i32⟩
  | 33 => ⟨S4x512x512, .i1⟩
  | 34 => ⟨S_, .i32⟩
  | 35 => ⟨S4x512x512, .i32⟩
  | 36 => ⟨S4x512x512, .i32⟩
  | 37 => ⟨S4x512x512, .i32⟩
  | 38 => ⟨S4x512x512, .i32⟩
  | 39 => ⟨S4x512x512, .i32⟩
  | 40 => ⟨S4x512x512, .i32⟩
  | 41 => ⟨S4x512x512x1, .i32⟩
  | 42 => ⟨S4x512x512x1, .i32⟩
  | 43 => ⟨S4x512x512x1, .i32⟩
  | 44 => ⟨S4x512x512x1, .i32⟩
  | 45 => ⟨S4x512x512x4, .i32⟩
  | 46 => ⟨S4x512x512x12, .f32⟩
  | 47 => ⟨S_, .f32⟩
  | 48 => ⟨S1x512x1x1, .f32⟩
  | 49 => ⟨S1x512x1x1, .f32⟩
  | 50 => ⟨S4x512x512x12, .f32⟩
  | 51 => ⟨S4x512x512x12, .f32⟩
  | 52 => ⟨S4x512x512x12, .f32⟩
  | 53 => ⟨S4x512x512x12, .f32⟩
  | 54 => ⟨S4x512x512x12, .f32⟩
  | 55 => ⟨S4x512x512x12, .f32⟩
  | 56 => ⟨S4x512x512x12, .f32⟩
  | 57 => ⟨S_, .i32⟩
  | 58 => ⟨S4x1x1, .i32⟩
  | 59 => ⟨S4x1x1, .i1⟩
  | 60 => ⟨S_, .i32⟩
  | 61 => ⟨S4x1x1, .i32⟩
  | 62 => ⟨S4x1x1, .i32⟩
  | 63 => ⟨S4x1x1, .i32⟩
  | 64 => ⟨S_, .i32⟩
  | 65 => ⟨S1x512x1, .i32⟩
  | 66 => ⟨S1x512x1, .i1⟩
  | 67 => ⟨S_, .i32⟩
  | 68 => ⟨S1x512x1, .i32⟩
  | 69 => ⟨S1x512x1, .i32⟩
  | 70 => ⟨S1x512x1, .i32⟩
  | 71 => ⟨S_, .i32⟩
  | 72 => ⟨S1x1x512, .i32⟩
  | 73 => ⟨S1x1x512, .i1⟩
  | 74 => ⟨S_, .i32⟩
  | 75 => ⟨S1x1x512, .i32⟩
  | 76 => ⟨S1x1x512, .i32⟩
  | 77 => ⟨S1x1x512, .i32⟩
  | 78 => ⟨S_, .i32⟩
  | 79 => ⟨S4x512x512, .i32⟩
  | 80 => ⟨S4x512x512, .i1⟩
  | 81 => ⟨S_, .i32⟩
  | 82 => ⟨S4x512x512, .i32⟩
  | 83 => ⟨S4x512x512, .i32⟩
  | 84 => ⟨S4x512x512, .i32⟩
  | 85 => ⟨S4x512x512, .i32⟩
  | 86 => ⟨S4x512x512, .i32⟩
  | 87 => ⟨S4x512x512, .i32⟩
  | 88 => ⟨S4x512x512x1, .i32⟩
  | 89 => ⟨S4x512x512x1, .i32⟩
  | 90 => ⟨S4x512x512x1, .i32⟩
  | 91 => ⟨S4x512x512x1, .i32⟩
  | 92 => ⟨S4x512x512x4, .i32⟩
  | 93 => ⟨S4x512x512x12, .f32⟩
  | 94 => ⟨S4x512x512x12, .f32⟩
  | 95 => ⟨S4x512x512x12, .f32⟩
  | 96 => ⟨S_, .f32⟩
  | 97 => ⟨S1x1x512x1, .f32⟩
  | 98 => ⟨S1x1x512x1, .f32⟩
  | 99 => ⟨S4x512x512x12, .f32⟩
  | 100 => ⟨S4x512x512x12, .f32⟩
  | 101 => ⟨S_, .f32⟩
  | 102 => ⟨S4x512x512x1, .f32⟩
  | 103 => ⟨S4x512x512x1, .f32⟩
  | 104 => ⟨S4x512x512x12, .f32⟩
  | 105 => ⟨S4x512x512x12, .f32⟩
  | 106 => ⟨S4x512x512x12, .f32⟩
  | 107 => ⟨S_, .i32⟩
  | 108 => ⟨S4x1x1, .i32⟩
  | 109 => ⟨S4x1x1, .i1⟩
  | 110 => ⟨S_, .i32⟩
  | 111 => ⟨S4x1x1, .i32⟩
  | 112 => ⟨S4x1x1, .i32⟩
  | 113 => ⟨S4x1x1, .i32⟩
  | 114 => ⟨S_, .i32⟩
  | 115 => ⟨S1x512x1, .i32⟩
  | 116 => ⟨S1x512x1, .i1⟩
  | 117 => ⟨S_, .i32⟩
  | 118 => ⟨S1x512x1, .i32⟩
  | 119 => ⟨S1x512x1, .i32⟩
  | 120 => ⟨S1x512x1, .i32⟩
  | 121 => ⟨S_, .i32⟩
  | 122 => ⟨S1x1x512, .i32⟩
  | 123 => ⟨S1x1x512, .i1⟩
  | 124 => ⟨S_, .i32⟩
  | 125 => ⟨S1x1x512, .i32⟩
  | 126 => ⟨S1x1x512, .i32⟩
  | 127 => ⟨S1x1x512, .i32⟩
  | _ => ⟨S4x12x8x16x16, .f32⟩

abbrev hbmTy0_3 (i : Nat) : BufTy := match i % 128 with
  | 0 => ⟨S_, .i32⟩
  | 1 => ⟨S4x512x512, .i32⟩
  | 2 => ⟨S4x512x512, .i1⟩
  | 3 => ⟨S_, .i32⟩
  | 4 => ⟨S4x512x512, .i32⟩
  | 5 => ⟨S4x512x512, .i32⟩
  | 6 => ⟨S4x512x512, .i32⟩
  | 7 => ⟨S4x512x512, .i32⟩
  | 8 => ⟨S4x512x512, .i32⟩
  | 9 => ⟨S4x512x512, .i32⟩
  | 10 => ⟨S4x512x512x1, .i32⟩
  | 11 => ⟨S4x512x512x1, .i32⟩
  | 12 => ⟨S4x512x512x1, .i32⟩
  | 13 => ⟨S4x512x512x1, .i32⟩
  | 14 => ⟨S4x512x512x4, .i32⟩
  | 15 => ⟨S4x512x512x12, .f32⟩
  | 16 => ⟨S4x512x512x12, .f32⟩
  | 17 => ⟨S4x512x512x12, .f32⟩
  | 18 => ⟨S_, .f32⟩
  | 19 => ⟨S1x1x512x1, .f32⟩
  | 20 => ⟨S1x1x512x1, .f32⟩
  | 21 => ⟨S4x512x512x12, .f32⟩
  | 22 => ⟨S4x512x512x12, .f32⟩
  | 23 => ⟨S4x512x512x12, .f32⟩
  | 24 => ⟨S4x512x512x12, .f32⟩
  | 25 => ⟨S4x512x512x12, .f32⟩
  | 26 => ⟨S_, .i32⟩
  | 27 => ⟨S4x1x1, .i32⟩
  | 28 => ⟨S4x1x1, .i1⟩
  | 29 => ⟨S_, .i32⟩
  | 30 => ⟨S4x1x1, .i32⟩
  | 31 => ⟨S4x1x1, .i32⟩
  | 32 => ⟨S4x1x1, .i32⟩
  | 33 => ⟨S_, .i32⟩
  | 34 => ⟨S1x512x1, .i32⟩
  | 35 => ⟨S1x512x1, .i1⟩
  | 36 => ⟨S_, .i32⟩
  | 37 => ⟨S1x512x1, .i32⟩
  | 38 => ⟨S1x512x1, .i32⟩
  | 39 => ⟨S1x512x1, .i32⟩
  | 40 => ⟨S_, .i32⟩
  | 41 => ⟨S1x1x512, .i32⟩
  | 42 => ⟨S1x1x512, .i1⟩
  | 43 => ⟨S_, .i32⟩
  | 44 => ⟨S1x1x512, .i32⟩
  | 45 => ⟨S1x1x512, .i32⟩
  | 46 => ⟨S1x1x512, .i32⟩
  | 47 => ⟨S_, .i32⟩
  | 48 => ⟨S4x512x512, .i32⟩
  | 49 => ⟨S4x512x512, .i1⟩
  | 50 => ⟨S_, .i32⟩
  | 51 => ⟨S4x512x512, .i32⟩
  | 52 => ⟨S4x512x512, .i32⟩
  | 53 => ⟨S4x512x512, .i32⟩
  | 54 => ⟨S4x512x512, .i32⟩
  | 55 => ⟨S4x512x512, .i32⟩
  | 56 => ⟨S4x512x512, .i32⟩
  | 57 => ⟨S4x512x512x1, .i32⟩
  | 58 => ⟨S4x512x512x1, .i32⟩
  | 59 => ⟨S4x512x512x1, .i32⟩
  | 60 => ⟨S4x512x512x1, .i32⟩
  | 61 => ⟨S4x512x512x4, .i32⟩
  | 62 => ⟨S4x512x512x12, .f32⟩
  | 63 => ⟨S4x512x512x12, .f32⟩
  | 64 => ⟨S4x512x512x12, .f32⟩
  | 65 => ⟨S4x512x512x12, .f32⟩
  | 66 => ⟨S4x512x512x12, .f32⟩
  | 67 => ⟨S_, .f32⟩
  | 68 => ⟨S4x512x512x1, .f32⟩
  | 69 => ⟨S4x512x512x1, .f32⟩
  | 70 => ⟨S4x512x512x12, .f32⟩
  | 71 => ⟨S4x512x512x12, .f32⟩
  | 72 => ⟨S4x512x512x12, .f32⟩
  | 73 => ⟨S_, .i32⟩
  | 74 => ⟨S4x1x1, .i32⟩
  | 75 => ⟨S4x1x1, .i1⟩
  | 76 => ⟨S_, .i32⟩
  | 77 => ⟨S4x1x1, .i32⟩
  | 78 => ⟨S4x1x1, .i32⟩
  | 79 => ⟨S4x1x1, .i32⟩
  | 80 => ⟨S_, .i32⟩
  | 81 => ⟨S1x512x1, .i32⟩
  | 82 => ⟨S1x512x1, .i1⟩
  | 83 => ⟨S_, .i32⟩
  | 84 => ⟨S1x512x1, .i32⟩
  | 85 => ⟨S1x512x1, .i32⟩
  | 86 => ⟨S1x512x1, .i32⟩
  | 87 => ⟨S_, .i32⟩
  | 88 => ⟨S1x1x512, .i32⟩
  | 89 => ⟨S1x1x512, .i1⟩
  | 90 => ⟨S_, .i32⟩
  | 91 => ⟨S1x1x512, .i32⟩
  | 92 => ⟨S1x1x512, .i32⟩
  | 93 => ⟨S1x1x512, .i32⟩
  | 94 => ⟨S_, .i32⟩
  | 95 => ⟨S4x512x512, .i32⟩
  | 96 => ⟨S4x512x512, .i1⟩
  | 97 => ⟨S_, .i32⟩
  | 98 => ⟨S4x512x512, .i32⟩
  | 99 => ⟨S4x512x512, .i32⟩
  | 100 => ⟨S4x512x512, .i32⟩
  | 101 => ⟨S4x512x512, .i32⟩
  | 102 => ⟨S4x512x512, .i32⟩
  | 103 => ⟨S4x512x512, .i32⟩
  | 104 => ⟨S4x512x512x1, .i32⟩
  | 105 => ⟨S4x512x512x1, .i32⟩
  | 106 => ⟨S4x512x512x1, .i32⟩
  | 107 => ⟨S4x512x512x1, .i32⟩
  | 108 => ⟨S4x512x512x4, .i32⟩
  | 109 => ⟨S4x512x512x12, .f32⟩
  | 110 => ⟨S4x512x512x12, .f32⟩
  | 111 => ⟨S4x512x512x12, .f32⟩
  | 112 => ⟨S4x512x512x12, .f32⟩
  | 113 => ⟨S4x512x512x12, .f32⟩
  | 114 => ⟨S4x512x512x12, .f32⟩
  | 115 => ⟨S4x512x512x12, .f32⟩
  | 116 => ⟨S4x512x512x12, .f32⟩
  | 117 => ⟨S4x12x512x512, .f32⟩
  | _ => ⟨S4x12x8x16x16, .f32⟩

abbrev hbmTy (i : Nat) : BufTy := match i / 128 with
  | 0 => hbmTy0_0 i
  | 1 => hbmTy0_1 i
  | 2 => hbmTy0_2 i
  | 3 => hbmTy0_3 i
  | _ => ⟨S4x12x8x16x16, .f32⟩

abbrev bufTy : (tb : Table) → Fin (tcTables nBuf tb) → BufTy
  | .hbm, ⟨i, _⟩ => hbmTy i
  | _, _ => ⟨S4x12x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_c_9 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_c_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v35 : Ref sig .tc := ⟨.hbm, 62, rfl⟩
abbrev main_v36 : Ref sig .tc := ⟨.hbm, 63, rfl⟩
abbrev main_c_13 : Ref sig .tc := ⟨.hbm, 64, rfl⟩
abbrev main_c_14 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v37 : Ref sig .tc := ⟨.hbm, 71, rfl⟩
abbrev main_v38 : Ref sig .tc := ⟨.hbm, 72, rfl⟩
abbrev main_c_15 : Ref sig .tc := ⟨.hbm, 73, rfl⟩
abbrev main_v39 : Ref sig .tc := ⟨.hbm, 74, rfl⟩
abbrev main_v40 : Ref sig .tc := ⟨.hbm, 75, rfl⟩
abbrev main_c_16 : Ref sig .tc := ⟨.hbm, 76, rfl⟩
abbrev main_c_17 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v41 : Ref sig .tc := ⟨.hbm, 83, rfl⟩
abbrev main_v42 : Ref sig .tc := ⟨.hbm, 84, rfl⟩
abbrev main_c_18 : Ref sig .tc := ⟨.hbm, 85, rfl⟩
abbrev main_c_19 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v43 : Ref sig .tc := ⟨.hbm, 92, rfl⟩
abbrev main_v44 : Ref sig .tc := ⟨.hbm, 93, rfl⟩
abbrev main_c_20 : Ref sig .tc := ⟨.hbm, 94, rfl⟩
abbrev main_v45 : Ref sig .tc := ⟨.hbm, 95, rfl⟩
abbrev main_v46 : Ref sig .tc := ⟨.hbm, 96, rfl⟩
abbrev main_c_21 : Ref sig .tc := ⟨.hbm, 97, rfl⟩
abbrev main_c_22 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_c_23 : Ref sig .tc := ⟨.hbm, 114, rfl⟩
abbrev main_v57 : Ref sig .tc := ⟨.hbm, 115, rfl⟩
abbrev main_v58 : Ref sig .tc := ⟨.hbm, 116, rfl⟩
abbrev main_c_24 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_c_25 : Ref sig .tc := ⟨.hbm, 121, rfl⟩
abbrev main_v62 : Ref sig .tc := ⟨.hbm, 122, rfl⟩
abbrev main_v63 : Ref sig .tc := ⟨.hbm, 123, rfl⟩
abbrev main_c_26 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_c_27 : Ref sig .tc := ⟨.hbm, 128, rfl⟩
abbrev main_v67 : Ref sig .tc := ⟨.hbm, 129, rfl⟩
abbrev main_v68 : Ref sig .tc := ⟨.hbm, 130, rfl⟩
abbrev main_c_28 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_c_29 : Ref sig .tc := ⟨.hbm, 135, rfl⟩
abbrev main_v72 : Ref sig .tc := ⟨.hbm, 136, rfl⟩
abbrev main_v73 : Ref sig .tc := ⟨.hbm, 137, rfl⟩
abbrev main_c_30 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_31 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_cst_32 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_33 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_c_34 : Ref sig .tc := ⟨.hbm, 166, rfl⟩
abbrev main_v98 : Ref sig .tc := ⟨.hbm, 167, rfl⟩
abbrev main_v99 : Ref sig .tc := ⟨.hbm, 168, rfl⟩
abbrev main_c_35 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_c_36 : Ref sig .tc := ⟨.hbm, 173, rfl⟩
abbrev main_v103 : Ref sig .tc := ⟨.hbm, 174, rfl⟩
abbrev main_v104 : Ref sig .tc := ⟨.hbm, 175, rfl⟩
abbrev main_c_37 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_c_38 : Ref sig .tc := ⟨.hbm, 180, rfl⟩
abbrev main_v108 : Ref sig .tc := ⟨.hbm, 181, rfl⟩
abbrev main_v109 : Ref sig .tc := ⟨.hbm, 182, rfl⟩
abbrev main_c_39 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_c_40 : Ref sig .tc := ⟨.hbm, 187, rfl⟩
abbrev main_v113 : Ref sig .tc := ⟨.hbm, 188, rfl⟩
abbrev main_v114 : Ref sig .tc := ⟨.hbm, 189, rfl⟩
abbrev main_c_41 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_42 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_43 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_c_44 : Ref sig .tc := ⟨.hbm, 216, rfl⟩
abbrev main_v138 : Ref sig .tc := ⟨.hbm, 217, rfl⟩
abbrev main_v139 : Ref sig .tc := ⟨.hbm, 218, rfl⟩
abbrev main_c_45 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_c_46 : Ref sig .tc := ⟨.hbm, 223, rfl⟩
abbrev main_v143 : Ref sig .tc := ⟨.hbm, 224, rfl⟩
abbrev main_v144 : Ref sig .tc := ⟨.hbm, 225, rfl⟩
abbrev main_c_47 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_c_48 : Ref sig .tc := ⟨.hbm, 230, rfl⟩
abbrev main_v148 : Ref sig .tc := ⟨.hbm, 231, rfl⟩
abbrev main_v149 : Ref sig .tc := ⟨.hbm, 232, rfl⟩
abbrev main_c_49 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_c_50 : Ref sig .tc := ⟨.hbm, 237, rfl⟩
abbrev main_v153 : Ref sig .tc := ⟨.hbm, 238, rfl⟩
abbrev main_v154 : Ref sig .tc := ⟨.hbm, 239, rfl⟩
abbrev main_c_51 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_cst_52 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_cst_53 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_c_54 : Ref sig .tc := ⟨.hbm, 266, rfl⟩
abbrev main_v178 : Ref sig .tc := ⟨.hbm, 267, rfl⟩
abbrev main_v179 : Ref sig .tc := ⟨.hbm, 268, rfl⟩
abbrev main_c_55 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_c_56 : Ref sig .tc := ⟨.hbm, 273, rfl⟩
abbrev main_v183 : Ref sig .tc := ⟨.hbm, 274, rfl⟩
abbrev main_v184 : Ref sig .tc := ⟨.hbm, 275, rfl⟩
abbrev main_c_57 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_c_58 : Ref sig .tc := ⟨.hbm, 280, rfl⟩
abbrev main_v188 : Ref sig .tc := ⟨.hbm, 281, rfl⟩
abbrev main_v189 : Ref sig .tc := ⟨.hbm, 282, rfl⟩
abbrev main_c_59 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_c_60 : Ref sig .tc := ⟨.hbm, 287, rfl⟩
abbrev main_v193 : Ref sig .tc := ⟨.hbm, 288, rfl⟩
abbrev main_v194 : Ref sig .tc := ⟨.hbm, 289, rfl⟩
abbrev main_c_61 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_cst_62 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_c_63 : Ref sig .tc := ⟨.hbm, 313, rfl⟩
abbrev main_v216 : Ref sig .tc := ⟨.hbm, 314, rfl⟩
abbrev main_v217 : Ref sig .tc := ⟨.hbm, 315, rfl⟩
abbrev main_c_64 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_c_65 : Ref sig .tc := ⟨.hbm, 320, rfl⟩
abbrev main_v221 : Ref sig .tc := ⟨.hbm, 321, rfl⟩
abbrev main_v222 : Ref sig .tc := ⟨.hbm, 322, rfl⟩
abbrev main_c_66 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_c_67 : Ref sig .tc := ⟨.hbm, 327, rfl⟩
abbrev main_v226 : Ref sig .tc := ⟨.hbm, 328, rfl⟩
abbrev main_v227 : Ref sig .tc := ⟨.hbm, 329, rfl⟩
abbrev main_c_68 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_c_69 : Ref sig .tc := ⟨.hbm, 334, rfl⟩
abbrev main_v231 : Ref sig .tc := ⟨.hbm, 335, rfl⟩
abbrev main_v232 : Ref sig .tc := ⟨.hbm, 336, rfl⟩
abbrev main_c_70 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_cst_71 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_cst_72 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_c_73 : Ref sig .tc := ⟨.hbm, 363, rfl⟩
abbrev main_v256 : Ref sig .tc := ⟨.hbm, 364, rfl⟩
abbrev main_v257 : Ref sig .tc := ⟨.hbm, 365, rfl⟩
abbrev main_c_74 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_c_75 : Ref sig .tc := ⟨.hbm, 370, rfl⟩
abbrev main_v261 : Ref sig .tc := ⟨.hbm, 371, rfl⟩
abbrev main_v262 : Ref sig .tc := ⟨.hbm, 372, rfl⟩
abbrev main_c_76 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_c_77 : Ref sig .tc := ⟨.hbm, 377, rfl⟩
abbrev main_v266 : Ref sig .tc := ⟨.hbm, 378, rfl⟩
abbrev main_v267 : Ref sig .tc := ⟨.hbm, 379, rfl⟩
abbrev main_c_78 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_c_79 : Ref sig .tc := ⟨.hbm, 384, rfl⟩
abbrev main_v271 : Ref sig .tc := ⟨.hbm, 385, rfl⟩
abbrev main_v272 : Ref sig .tc := ⟨.hbm, 386, rfl⟩
abbrev main_c_80 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_cst_81 : Ref sig .tc := ⟨.hbm, 402, rfl⟩
abbrev main_v287 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_c_82 : Ref sig .tc := ⟨.hbm, 410, rfl⟩
abbrev main_v294 : Ref sig .tc := ⟨.hbm, 411, rfl⟩
abbrev main_v295 : Ref sig .tc := ⟨.hbm, 412, rfl⟩
abbrev main_c_83 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_c_84 : Ref sig .tc := ⟨.hbm, 417, rfl⟩
abbrev main_v299 : Ref sig .tc := ⟨.hbm, 418, rfl⟩
abbrev main_v300 : Ref sig .tc := ⟨.hbm, 419, rfl⟩
abbrev main_c_85 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_c_86 : Ref sig .tc := ⟨.hbm, 424, rfl⟩
abbrev main_v304 : Ref sig .tc := ⟨.hbm, 425, rfl⟩
abbrev main_v305 : Ref sig .tc := ⟨.hbm, 426, rfl⟩
abbrev main_c_87 : Ref sig .tc := ⟨.hbm, 427, rfl⟩
abbrev main_v306 : Ref sig .tc := ⟨.hbm, 428, rfl⟩
abbrev main_v307 : Ref sig .tc := ⟨.hbm, 429, rfl⟩
abbrev main_v308 : Ref sig .tc := ⟨.hbm, 430, rfl⟩
abbrev main_c_88 : Ref sig .tc := ⟨.hbm, 431, rfl⟩
abbrev main_v309 : Ref sig .tc := ⟨.hbm, 432, rfl⟩
abbrev main_v310 : Ref sig .tc := ⟨.hbm, 433, rfl⟩
abbrev main_c_89 : Ref sig .tc := ⟨.hbm, 434, rfl⟩
abbrev main_v311 : Ref sig .tc := ⟨.hbm, 435, rfl⟩
abbrev main_v312 : Ref sig .tc := ⟨.hbm, 436, rfl⟩
abbrev main_v313 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_cst_90 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_c_91 : Ref sig .tc := ⟨.hbm, 457, rfl⟩
abbrev main_v332 : Ref sig .tc := ⟨.hbm, 458, rfl⟩
abbrev main_v333 : Ref sig .tc := ⟨.hbm, 459, rfl⟩
abbrev main_c_92 : Ref sig .tc := ⟨.hbm, 460, rfl⟩
abbrev main_v334 : Ref sig .tc := ⟨.hbm, 461, rfl⟩
abbrev main_v335 : Ref sig .tc := ⟨.hbm, 462, rfl⟩
abbrev main_v336 : Ref sig .tc := ⟨.hbm, 463, rfl⟩
abbrev main_c_93 : Ref sig .tc := ⟨.hbm, 464, rfl⟩
abbrev main_v337 : Ref sig .tc := ⟨.hbm, 465, rfl⟩
abbrev main_v338 : Ref sig .tc := ⟨.hbm, 466, rfl⟩
abbrev main_c_94 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_c_95 : Ref sig .tc := ⟨.hbm, 471, rfl⟩
abbrev main_v342 : Ref sig .tc := ⟨.hbm, 472, rfl⟩
abbrev main_v343 : Ref sig .tc := ⟨.hbm, 473, rfl⟩
abbrev main_c_96 : Ref sig .tc := ⟨.hbm, 474, rfl⟩
abbrev main_v344 : Ref sig .tc := ⟨.hbm, 475, rfl⟩
abbrev main_v345 : Ref sig .tc := ⟨.hbm, 476, rfl⟩
abbrev main_v346 : Ref sig .tc := ⟨.hbm, 477, rfl⟩
abbrev main_c_97 : Ref sig .tc := ⟨.hbm, 478, rfl⟩
abbrev main_v347 : Ref sig .tc := ⟨.hbm, 479, rfl⟩
abbrev main_v348 : Ref sig .tc := ⟨.hbm, 480, rfl⟩
abbrev main_c_98 : Ref sig .tc := ⟨.hbm, 481, rfl⟩
abbrev main_v349 : Ref sig .tc := ⟨.hbm, 482, rfl⟩
abbrev main_v350 : Ref sig .tc := ⟨.hbm, 483, rfl⟩
abbrev main_v351 : Ref sig .tc := ⟨.hbm, 484, rfl⟩
abbrev main_v352 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_v358 : Ref sig .tc := ⟨.hbm, 491, rfl⟩
abbrev main_v359 : Ref sig .tc := ⟨.hbm, 492, rfl⟩
abbrev main_v360 : Ref sig .tc := ⟨.hbm, 493, rfl⟩
abbrev main_v361 : Ref sig .tc := ⟨.hbm, 494, rfl⟩
abbrev main_v362 : Ref sig .tc := ⟨.hbm, 495, rfl⟩
abbrev main_v363 : Ref sig .tc := ⟨.hbm, 496, rfl⟩
abbrev main_v364 : Ref sig .tc := ⟨.hbm, 497, rfl⟩
abbrev main_v365 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩

abbrev nD : Nat := 1
abbrev τ : Topo := Topo.v7x

variable {F : FTy → Type} [FloatOps F]
-- ==== Proof.Math.lean ====
/-
  The mathematics of the bilateral slice, apart from any program: sample positions along an axis of 512 pixels over
  16 cells, tent weights along the depth, and the equation between the kernel's arrangement of the trilinear
  interpolation and the eight-term sum, over the extended reals. No entry of the grid need be finite: every weight is
  a nonnegative real, and multiplication by such a real distributes over every sum of extended reals.
-/
module

public import Idealize.ShloMosaic.PureOps.Ideal
public import Idealize.ShloMosaic.PureOps.Ideal.Laws

@[expose] public section

noncomputable section

namespace Cert.Slice

/-! ## Positions along a spatial axis -/

/-- The lower of the two cells that pixel `n` of 512 lies between, clipped to the 16 cells. -/
def lo (n : Fin 512) : Fin 16 := ⟨(n.val + 16) / 32 - 1, by omega⟩
/-- The upper of the two cells that pixel `n` of 512 lies between, clipped to the 16 cells. -/
def hi (n : Fin 512) : Fin 16 := ⟨min ((n.val + 16) / 32) 15, by omega⟩
/-- The weight of the upper cell: the fractional part of the pixel's position. -/
def frac (n : Fin 512) : ℝ := (((n.val + 16) % 32 : ℕ) + 1 / 2) / 32

theorem frac_nonneg (n : Fin 512) : 0 ≤ frac n := by unfold frac; positivity

theorem frac_le_one (n : Fin 512) : frac n ≤ 1 := by
  have h : (((n.val + 16) % 32 : ℕ) : ℝ) ≤ 31 := by
    exact_mod_cast Nat.le_of_lt_succ (Nat.mod_lt _ (by norm_num))
  unfold frac; linarith

/-- The position is its cell plus the weight. -/
theorem pos_eq (n : Fin 512) :
    ((n.val : ℝ) + 1 / 2) * 16 / 512 - 1 / 2 = (((n.val + 16) / 32 : ℕ) : ℝ) - 1 + frac n := by
  have h : ((32 * ((n.val + 16) / 32) + (n.val + 16) % 32 : ℕ) : ℝ) = ((n.val + 16 : ℕ) : ℝ) :=
    congrArg _ (Nat.div_add_mod _ _)
  push_cast at h
  unfold frac; linarith

/-- The floor of the position. -/
theorem pos_floor (n : Fin 512) :
    ⌊((n.val : ℝ) + 1 / 2) * 16 / 512 - 1 / 2⌋ = (((n.val + 16) / 32 : ℕ) : ℤ) - 1 := by
  rw [pos_eq, Int.floor_eq_iff]
  have h : (((n.val + 16) % 32 : ℕ) : ℝ) ≤ 31 := by
    exact_mod_cast Nat.le_of_lt_succ (Nat.mod_lt _ (by norm_num))
  refine ⟨?_, ?_⟩
  · simp only [Int.cast_sub, Int.cast_natCast, Int.cast_one]; linarith [frac_nonneg n]
  · simp only [Int.cast_sub, Int.cast_natCast, Int.cast_one]; unfold frac; linarith

/-! ## Depth -/

/-- A whole number clipped to the eight depth cells. -/
def clip8 (k : ℤ) : Fin 8 := ⟨(max 0 (min k 7)).toNat, by omega⟩

/-- The tent weight of depth cell `z` at depth `t`, the depth clipped to the cells' centres. -/
def tent (t : ℝ) (z : Fin 8) : ℝ := max 0 (1 - |min 7 (max 0 t) - (z.val : ℝ)|)

theorem tent_nonneg (t : ℝ) (z : Fin 8) : 0 ≤ tent t z := le_max_left _ _

theorem tent_zero {t : ℝ} {z : Fin 8} (h : 1 ≤ |min 7 (max 0 t) - (z.val : ℝ)|) : tent t z = 0 :=
  max_eq_left (by linarith)

/-- The tent weights select the two cells that the depth lies between, at their linear weights. -/
theorem tent_sum (t : ℝ) (F : Fin 8 → EReal) :
    ∑ z, (tent t z : EReal) * F z
      = F (clip8 ⌊t⌋) * ((1 - (t - (⌊t⌋ : ℝ)) : ℝ) : EReal) + F (clip8 (⌊t⌋ + 1)) * ((t - (⌊t⌋ : ℝ) : ℝ) : EReal) := by
  have h0 := Int.floor_le t
  have h1 := Int.lt_floor_add_one t
  -- one cell carries everything
  have one (k : Fin 8) (hk : min 7 (max 0 t) = (k.val : ℝ)) (ha : clip8 ⌊t⌋ = k) (hb : clip8 (⌊t⌋ + 1) = k) :
      ∑ z, (tent t z : EReal) * F z
        = F (clip8 ⌊t⌋) * ((1 - (t - (⌊t⌋ : ℝ)) : ℝ) : EReal) + F (clip8 (⌊t⌋ + 1)) * ((t - (⌊t⌋ : ℝ) : ℝ) : EReal) := by
    rw [ha, hb, ← EReal.left_distrib_of_nonneg (by exact_mod_cast (by linarith)) (by exact_mod_cast (by linarith)),
      ← EReal.coe_add, Finset.sum_eq_single k]
    · have e : tent t k = 1 := by unfold tent; rw [hk]; simp
      rw [e, mul_comm]; congr 2; ring
    · intro z _ hz
      rw [tent_zero, EReal.coe_zero, zero_mul]
      rw [hk, ← Int.cast_natCast, ← Int.cast_natCast (R := ℝ) z.val, ← Int.cast_sub, ← Int.cast_abs]
      have : (k.val : ℤ) - z.val ≠ 0 := by
        intro h; apply hz; apply Fin.ext; omega
      exact_mod_cast Int.one_le_abs this
    · intro h; exact absurd (Finset.mem_univ _) h
  by_cases hlt : t < 0
  · have hf : ⌊t⌋ < 0 := Int.floor_lt.mpr (by exact_mod_cast hlt)
    refine one 0 ?_ ?_ ?_
    · rw [max_eq_left hlt.le]; simp
    · apply Fin.ext; show (max 0 (min ⌊t⌋ 7)).toNat = 0; omega
    · apply Fin.ext; show (max 0 (min (⌊t⌋ + 1) 7)).toNat = 0; omega
  by_cases hge : 7 ≤ t
  · have hf : 7 ≤ ⌊t⌋ := Int.le_floor.mpr (by exact_mod_cast hge)
    refine one 7 ?_ ?_ ?_
    · rw [max_eq_right (by linarith), min_eq_left hge]; simp
    · apply Fin.ext; show (max 0 (min ⌊t⌋ 7)).toNat = 7; omega
    · apply Fin.ext; show (max 0 (min (⌊t⌋ + 1) 7)).toNat = 7; omega
  push Not at hlt hge
  have hf0 : 0 ≤ ⌊t⌋ := Int.le_floor.mpr (by exact_mod_cast hlt)
  have hf7 : ⌊t⌋ < 7 := Int.floor_lt.mpr (by exact_mod_cast hge)
  obtain ⟨k, hk⟩ : ∃ k : ℕ, ⌊t⌋ = (k : ℤ) := ⟨⌊t⌋.toNat, by omega⟩
  have hk7 : k < 7 := by omega
  have ht : min 7 (max 0 t) = t := by rw [max_eq_right hlt, min_eq_right hge.le]
  have ha : clip8 ⌊t⌋ = ⟨k, by omega⟩ := by apply Fin.ext; show (max 0 (min ⌊t⌋ 7)).toNat = k; omega
  have hb : clip8 (⌊t⌋ + 1) = ⟨k + 1, by omega⟩ := by
    apply Fin.ext; show (max 0 (min (⌊t⌋ + 1) 7)).toNat = k + 1; omega
  rw [ha, hb, hk]
  rw [hk] at h0 h1
  simp only [Int.cast_natCast] at h0 h1 ⊢
  have ea : tent t ⟨k, by omega⟩ = 1 - (t - k) := by
    unfold tent; rw [ht, abs_of_nonneg (by simpa using h0)]; exact max_eq_right (by simp only; linarith)
  have eb : tent t ⟨k + 1, by omega⟩ = t - k := by
    unfold tent; rw [ht, abs_of_nonpos (by push_cast; linarith)]
    rw [max_eq_right (by push_cast; linarith)]; push_cast; ring
  rw [← ea, ← eb, mul_comm (F _), mul_comm (F _)]
  refine Finset.sum_eq_add (⟨k, by omega⟩ : Fin 8) ⟨k + 1, by omega⟩ (by simp [Fin.ext_iff]) ?_ (by simp) (by simp)
  intro z _ hz
  rw [tent_zero, EReal.coe_zero, zero_mul]
  rw [ht]
  have h1' : z.val ≠ k := fun h => hz.1 (Fin.ext h)
  have h2' : z.val ≠ k + 1 := fun h => hz.2 (Fin.ext h)
  rcases Nat.lt_or_ge z.val k with h | h
  · have : (z.val : ℝ) + 1 ≤ k := by exact_mod_cast h
    rw [abs_of_nonneg (by linarith)]; linarith
  · have : (k : ℝ) + 2 ≤ z.val := by exact_mod_cast (by omega : k + 2 ≤ z.val)
    rw [abs_of_nonpos (by linarith)]; linarith

/-! ## The slice -/

/-- Linear interpolation between `a` and `b` at weight `w`. -/
def lerp (w : ℝ) (a b : EReal) : EReal := a * ((1 - w : ℝ) : EReal) + b * (w : EReal)

/-- The slice of the cells `g y x z` at pixel row `r`, pixel column `q` and depth `t`: eight terms, each a cell times its
    three weights. -/
def slice (g : Fin 16 → Fin 16 → Fin 8 → EReal) (r q : Fin 512) (t : ℝ) : EReal :=
  let wy := frac r
  let wx := frac q
  let wz := t - (⌊t⌋ : ℝ)
  let z0 := clip8 ⌊t⌋
  let z1 := clip8 (⌊t⌋ + 1)
  g (lo r) (lo q) z0 * ((1 - wy : ℝ) : EReal) * ((1 - wx : ℝ) : EReal) * ((1 - wz : ℝ) : EReal)
    + g (lo r) (lo q) z1 * ((1 - wy : ℝ) : EReal) * ((1 - wx : ℝ) : EReal) * (wz : EReal)
    + g (lo r) (hi q) z0 * ((1 - wy : ℝ) : EReal) * (wx : EReal) * ((1 - wz : ℝ) : EReal)
    + g (lo r) (hi q) z1 * ((1 - wy : ℝ) : EReal) * (wx : EReal) * (wz : EReal)
    + g (hi r) (lo q) z0 * (wy : EReal) * ((1 - wx : ℝ) : EReal) * ((1 - wz : ℝ) : EReal)
    + g (hi r) (lo q) z1 * (wy : EReal) * ((1 - wx : ℝ) : EReal) * (wz : EReal)
    + g (hi r) (hi q) z0 * (wy : EReal) * (wx : EReal) * ((1 - wz : ℝ) : EReal)
    + g (hi r) (hi q) z1 * (wy : EReal) * (wx : EReal) * (wz : EReal)

/-- A nonnegative real on the right distributes over any sum of extended reals. -/
theorem add_mul_coe {x : ℝ} (hx : 0 ≤ x) (a b : EReal) : (a + b) * (x : EReal) = a * x + b * x := by
  exact EReal.right_distrib_of_nonneg_of_ne_top (by exact_mod_cast hx) (EReal.coe_ne_top x) a b

/-- The kernel's arrangement: depth outermost, each depth's two rows already interpolated along the column axis, the depth's
    weight split between the two rows. It is the slice. -/
theorem slice_eq (g : Fin 16 → Fin 16 → Fin 8 → EReal) (r q : Fin 512) (t : ℝ) :
    ∑ z, (((tent t z - tent t z * frac r : ℝ) : EReal) * lerp (frac q) (g (lo r) (lo q) z) (g (lo r) (hi q) z)
        + ((tent t z * frac r : ℝ) : EReal) * lerp (frac q) (g (hi r) (lo q) z) (g (hi r) (hi q) z))
      = slice g r q t := by
  have wy0 := frac_nonneg r
  have wy1 : 0 ≤ 1 - frac r := by linarith [frac_le_one r]
  have wx0 := frac_nonneg q
  have wx1 : 0 ≤ 1 - frac q := by linarith [frac_le_one q]
  have wz0 : 0 ≤ t - (⌊t⌋ : ℝ) := by linarith [Int.floor_le t]
  have wz1 : 0 ≤ 1 - (t - (⌊t⌋ : ℝ)) := by linarith [Int.lt_floor_add_one t]
  have key (z : Fin 8) :
      ((tent t z - tent t z * frac r : ℝ) : EReal) * lerp (frac q) (g (lo r) (lo q) z) (g (lo r) (hi q) z)
        + ((tent t z * frac r : ℝ) : EReal) * lerp (frac q) (g (hi r) (lo q) z) (g (hi r) (hi q) z)
      = (tent t z : EReal) * lerp (frac r) (lerp (frac q) (g (lo r) (lo q) z) (g (lo r) (hi q) z))
          (lerp (frac q) (g (hi r) (lo q) z) (g (hi r) (hi q) z)) := by
    have e : tent t z - tent t z * frac r = tent t z * (1 - frac r) := by ring
    rw [e]
    generalize lerp (frac q) (g (lo r) (lo q) z) (g (lo r) (hi q) z) = A
    generalize lerp (frac q) (g (hi r) (lo q) z) (g (hi r) (hi q) z) = B
    unfold lerp
    rw [mul_comm (tent t z : EReal), add_mul_coe (tent_nonneg t z), EReal.coe_mul, EReal.coe_mul]
    congr 1
    · rw [mul_comm, ← mul_assoc, mul_right_comm]
    · rw [mul_comm, ← mul_assoc, mul_right_comm]
  simp only [key]
  rw [tent_sum t fun z => lerp (frac r) (lerp (frac q) (g (lo r) (lo q) z) (g (lo r) (hi q) z))
          (lerp (frac q) (g (hi r) (lo q) z) (g (hi r) (hi q) z))]
  unfold slice lerp
  simp only [add_mul_coe wy0, add_mul_coe wy1, add_mul_coe wz0, add_mul_coe wz1, mul_assoc]
  generalize ((1 - frac r : ℝ) : EReal) = a0
  generalize (frac r : EReal) = a1
  generalize ((1 - frac q : ℝ) : EReal) = b0
  generalize (frac q : EReal) = b1
  generalize ((1 - (t - (⌊t⌋ : ℝ)) : ℝ) : EReal) = c0
  generalize ((t - (⌊t⌋ : ℝ) : ℝ) : EReal) = c1
  generalize g (lo r) (lo q) (clip8 ⌊t⌋) = g1
  generalize g (lo r) (lo q) (clip8 (⌊t⌋ + 1)) = g2
  generalize g (lo r) (hi q) (clip8 ⌊t⌋) = g3
  generalize g (lo r) (hi q) (clip8 (⌊t⌋ + 1)) = g4
  generalize g (hi r) (lo q) (clip8 ⌊t⌋) = g5
  generalize g (hi r) (lo q) (clip8 (⌊t⌋ + 1)) = g6
  generalize g (hi r) (hi q) (clip8 ⌊t⌋) = g7
  generalize g (hi r) (hi q) (clip8 (⌊t⌋ + 1)) = g8
  rw [mul_left_comm b0 a0, mul_left_comm b1 a0, mul_left_comm b0 a1, mul_left_comm b1 a1,
    mul_left_comm b0 a0, mul_left_comm b1 a0, mul_left_comm b0 a1, mul_left_comm b1 a1]
  abel

end Cert.Slice

end
-- ==== Proof.Position.lean ====
/-
  Where a pixel lies among the cells, as the host computes it: the position vector of the 512 pixels of a row or column,
  its fractional part, and the two clipped cell numbers. `weight_apply`, `below_apply` and `above_apply` read these
  vectors at a pixel. `depth_below` and `depth_above` are the same reading for one depth.
-/
module

public import proofs.«01_k».proof.Proof.Math
public import proofs.«01_k».proof.Proof.Gen.ReferenceIdeal
public import Idealize.ShloMosaic.Lib.Pointwise
public import Idealize.ShloMosaic.Lib.IdealHost

@[expose] public section

noncomputable section

namespace Cert.Slice

open Cert.ReferenceIdeal Cert.ReferenceIdeal.Gen Idealize.ShloMosaic

/-! ## The constants' values -/

theorem word_half : Ideal.ofBits .f32 0x3F000000#32 = ((1 / 2 : ℝ) : EReal) := by
  simp [Ideal.ofBits, Ideal.ieee, -EReal.coe_mul]; norm_num
theorem word_sixteen : Ideal.ofBits .f32 0x41800000#32 = ((16 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_eight : Ideal.ofBits .f32 0x41000000#32 = ((8 : ℝ) : EReal) := by
  simp [Ideal.ofBits, Ideal.ieee, -EReal.coe_mul]; norm_num

/-! ## The vectors -/

section
variable {F : FTy → Type} [FloatOps F]

/-- One number everywhere. -/
def fill (s : Shape) (h : S_.BroadcastsInDim s (![] : Fin 0 → Fin s.rank)) (w : BitVec 32) : FVec F s .f32 :=
  broadcastInDim s ![] h (constant S_ .f32 w)

/-- One whole number everywhere. -/
def fillI (s : Shape) (h : S_.BroadcastsInDim s (![] : Fin 0 → Fin s.rank)) (w : BitVec 32) : IVec s 32 :=
  broadcastInDim s ![] h (constantI S_ 32 w)

/-- Whole numbers clipped to `0 … n`. -/
def clip (s : Shape) (h : S_.BroadcastsInDim s (![] : Fin 0 → Fin s.rank)) (n : BitVec 32) (v : IVec s 32) : IVec s 32 :=
  minsi (fillI s h n) (maxsi (fillI s h 0#32) v)

/-- The positions of the 512 pixels, in cells: `(n + ½) · 16 / 512 - ½`. -/
def ramp : FVec F S512 .f32 :=
  subf (Host.divf (mulf (addf (sitofp .f32 (iotaInDim S512 32 0)) (fill S512 bcast_S_S512 0x3F000000#32))
    (fill S512 bcast_S_S512 0x41800000#32)) (fill S512 bcast_S_S512 0x44000000#32)) (fill S512 bcast_S_S512 0x3F000000#32)

/-- The fractional parts of the positions. -/
def weight : FVec F S512 .f32 := subf (ramp (F := F)) (Host.floor (ramp (F := F)))

variable (F) in
/-- The cell below each position, clipped. -/
def below : IVec S512 32 := clip S512 bcast_S_S512 15#32 (fptosi 32 (Host.floor (ramp (F := F))))

variable (F) in
/-- The cell above each position, clipped. -/
def above : IVec S512 32 :=
  clip S512 bcast_S_S512 15#32 (addi (fptosi 32 (Host.floor (ramp (F := F)))) (fillI S512 bcast_S_S512 1#32))

theorem fill_apply (s : Shape) (h : S_.BroadcastsInDim s (![] : Fin 0 → Fin s.rank)) (w : BitVec 32) (i : s.Idx) :
    fill (F := F) s h w i = FloatOps.ofBits .f32 w := rfl

theorem fillI_apply (s : Shape) (h : S_.BroadcastsInDim s (![] : Fin 0 → Fin s.rank)) (w : BitVec 32) (i : s.Idx) :
    fillI s h w i = w := rfl

theorem clip_apply (s : Shape) (h : S_.BroadcastsInDim s (![] : Fin 0 → Fin s.rank)) (n : BitVec 32) (v : IVec s 32) (i : s.Idx) :
    clip s h n v i = IntOp.minsi n (IntOp.maxsi 0#32 (v i)) := rfl

end

/-! ## Whole numbers and their words -/

/-- Clipping a word to `0 … n` clips the signed number it holds. -/
theorem clip_word (n : ℕ) (hn : n < 2 ^ 31) (k : ℤ) (hl : -2 ^ 31 ≤ k) (hu : k < 2 ^ 31) :
    IntOp.minsi (BitVec.ofNat 32 n) (IntOp.maxsi 0#32 (BitVec.ofInt 32 k)) = BitVec.ofNat 32 (max 0 (min k n)).toNat := by
  have hk : (BitVec.ofInt 32 k).toInt = k := BitVec.toInt_ofInt_eq_self (by norm_num) (by norm_num; omega) (by norm_num; omega)
  have hN : ∀ j : ℕ, j < 2 ^ 31 → (BitVec.ofNat 32 j).toInt = (j : ℤ) := fun j hj => by
    rw [BitVec.toInt_ofNat', Int.bmod_def]; omega
  apply BitVec.eq_of_toInt_eq
  rw [hN _ (by omega)]
  unfold IntOp.minsi IntOp.maxsi
  rw [BitVec.slt_eq_decide, BitVec.slt_eq_decide, hk, hN n hn]
  simp only [BitVec.toInt_zero, decide_eq_true_eq]
  split_ifs with h1 h2 h2
  all_goals first | (rw [hN n hn]) | (rw [hk]) | (rw [BitVec.toInt_zero]) | skip
  all_goals simp only [hk, BitVec.toInt_zero] at *
  all_goals omega

/-- A whole real converts to the word of the nearest number a 32-bit signed word holds. -/
theorem fptosi_int (k : ℤ) : Ideal.fptosi 32 (((k : ℤ) : ℝ) : EReal) = BitVec.ofInt 32 (max (-2 ^ 31) (min (2 ^ 31 - 1) k)) := by
  unfold Ideal.fptosi
  rw [Ideal.toIntClamped_coe, Int.floor_intCast, Int.ceil_intCast, ite_self]
  norm_num

/-- One added to a word. -/
theorem ofInt_add_one (k : ℤ) : IntOp.addi (BitVec.ofInt 32 k) 1#32 = BitVec.ofInt 32 (k + 1) := by
  show BitVec.ofInt 32 k + 1#32 = _
  rw [BitVec.ofInt_add]; rfl

/-- The clipped word of a whole real. -/
theorem below_word (n : ℕ) (hn : n < 2 ^ 31) (k : ℤ) :
    IntOp.minsi (BitVec.ofNat 32 n) (IntOp.maxsi 0#32 (Ideal.fptosi 32 (((k : ℤ) : ℝ) : EReal)))
      = BitVec.ofNat 32 (max 0 (min k n)).toNat := by
  rw [fptosi_int, clip_word n hn _ (by omega) (by omega)]
  congr 2; omega

/-- The clipped word of the number after a whole real, when that number does not leave the words above. -/
theorem above_word (n : ℕ) (hn : n < 2 ^ 31) (hn' : 0 < n) (k : ℤ) (hk : k < 2 ^ 31 - 1) :
    IntOp.minsi (BitVec.ofNat 32 n) (IntOp.maxsi 0#32 (IntOp.addi (Ideal.fptosi 32 (((k : ℤ) : ℝ) : EReal)) 1#32))
      = BitVec.ofNat 32 (max 0 (min (k + 1) n)).toNat := by
  rw [fptosi_int, ofInt_add_one, clip_word n hn _ (by omega) (by omega)]
  congr 2; omega

/-! ## The vectors at a pixel -/

/-- Pixel `n`'s position. -/
theorem ramp_apply (n : Fin 512) :
    ramp (F := Ideal) (ix1 n) = ((((n.val : ℝ) + 1 / 2) * 16 / 512 - 1 / 2 : ℝ) : EReal) := by
  have hw : (BitVec.ofNat 32 n.val).toInt = (n.val : ℤ) := by
    rw [BitVec.toInt_ofNat', Int.bmod_def]; omega
  show Ideal.div (((((BitVec.ofNat 32 n.val).toInt : ℝ) : EReal) + Ideal.ofBits .f32 0x3F000000#32)
    * Ideal.ofBits .f32 0x41800000#32) (Ideal.ofBits .f32 0x44000000#32) - Ideal.ofBits .f32 0x3F000000#32 = _
  rw [hw, word_half, word_sixteen, word_512, ← EReal.coe_add, ← EReal.coe_mul, Ideal.div_coe (by norm_num), ← EReal.coe_mul,
    ← EReal.coe_sub, Int.cast_natCast]
  congr 1; ring

/-- Pixel `n`'s weight of the upper cell. -/
theorem weight_apply (n : Fin 512) : weight (F := Ideal) (ix1 n) = ((frac n : ℝ) : EReal) := by
  show ramp (F := Ideal) (ix1 n) - Ideal.liftRound Int.floor (ramp (F := Ideal) (ix1 n)) = _
  rw [ramp_apply, Ideal.liftRound_coe, pos_floor, pos_eq, ← EReal.coe_sub]
  congr 1; rw [Int.cast_sub, Int.cast_one, Int.cast_natCast]; ring

/-- Pixel `n`'s lower cell. -/
theorem below_apply (n : Fin 512) : below Ideal (ix1 n) = BitVec.ofNat 32 (lo n).val := by
  show IntOp.minsi (BitVec.ofNat 32 15) (IntOp.maxsi 0#32 (Ideal.fptosi 32 (Ideal.liftRound Int.floor (ramp (F := Ideal) (ix1 n))))) = _
  rw [ramp_apply, Ideal.liftRound_coe, below_word 15 (by norm_num), pos_floor]
  congr 1; show _ = (n.val + 16) / 32 - 1; omega

/-- Pixel `n`'s upper cell. -/
theorem above_apply (n : Fin 512) : above Ideal (ix1 n) = BitVec.ofNat 32 (hi n).val := by
  show IntOp.minsi (BitVec.ofNat 32 15) (IntOp.maxsi 0#32 (IntOp.addi (Ideal.fptosi 32
    (Ideal.liftRound Int.floor (ramp (F := Ideal) (ix1 n)))) 1#32)) = _
  rw [ramp_apply, Ideal.liftRound_coe, above_word 15 (by norm_num) (by norm_num) _ (by rw [pos_floor]; omega), pos_floor]
  congr 1; show _ = min ((n.val + 16) / 32) 15; omega

/-! ## One depth -/

/-- The clipped cell below depth `t`. -/
theorem depth_below (t : ℝ) :
    IntOp.minsi (BitVec.ofNat 32 7) (IntOp.maxsi 0#32 (Ideal.fptosi 32 (Ideal.liftRound Int.floor ((t : ℝ) : EReal))))
      = BitVec.ofNat 32 (clip8 ⌊t⌋).val := by
  rw [Ideal.liftRound_coe, below_word 7 (by norm_num)]; rfl

/-- The clipped cell above depth `t`, for a depth whose next whole number is a 32-bit signed word. -/
theorem depth_above (t : ℝ) (ht : ⌊t⌋ < 2 ^ 31 - 1) :
    IntOp.minsi (BitVec.ofNat 32 7) (IntOp.maxsi 0#32 (IntOp.addi (Ideal.fptosi 32 (Ideal.liftRound Int.floor ((t : ℝ) : EReal))) 1#32))
      = BitVec.ofNat 32 (clip8 (⌊t⌋ + 1)).val := by
  rw [Ideal.liftRound_coe, above_word 7 (by norm_num) (by norm_num) _ ht]; rfl

end Cert.Slice
-- ==== Proof.Corner.lean ====
/-
  One corner of the reference's trilinear interpolation: the gather of the transposed grid at four whole-number arrays,
  one per gathered axis, each first wrapped from a negative index. The reference's eight gathers are eight uses of
  `corner`; `corner_apply` reads it at an index.
-/
module

public import proofs.«01_k».proof.Proof.Gen.ReferenceIdeal
public import Idealize.ShloMosaic.Lib.Pointwise

@[expose] public section

noncomputable section

namespace Cert.Slice

open Cert.ReferenceIdeal Cert.ReferenceIdeal.Gen Idealize.ShloMosaic

/-- An array of whole numbers with `n` added where the entry is negative. -/
def wrap {s : Shape} (h : S_.BroadcastsInDim s (![] : Fin 0 → Fin s.rank)) (n : BitVec 32) (v : IVec s 32) : IVec s 32 :=
  select (cmpi .slt v (broadcastInDim s ![] h (constantI S_ 32 0#32))) (addi v (broadcastInDim s ![] h (constantI S_ 32 n))) v

/-- Wrapping leaves a nonnegative entry as it is. -/
theorem wrap_apply {s : Shape} (h : S_.BroadcastsInDim s (![] : Fin 0 → Fin s.rank)) (n : BitVec 32) (v : IVec s 32) (i : s.Idx)
    (k : ℕ) (hk : k < 16) (hv : v i = BitVec.ofNat 32 k) : wrap h n v i = BitVec.ofNat 32 k := by
  unfold wrap
  show Scalar.select (IntOp.cmpi .slt (v i) 0#32) _ (v i) = _
  rw [hv]
  have : IntOp.cmpi .slt (BitVec.ofNat 32 k) 0#32 = 0#1 := by
    interval_cases k <;> decide
  rw [this]; rfl

/-- The four index arrays side by side, one row of four numbers per pixel. -/
def starts (B : IVec S4x1x1 32) (Y : IVec S1x512x1 32) (X : IVec S1x1x512 32) (Z : IVec S4x512x512 32) : IVec S4x512x512x4 32 :=
  concatenate S4x512x512x4 3
    [⟨S4x512x512x1, broadcastInDim S4x512x512x1 ![0, 1, 2] bcast_S4x512x512_S4x512x512x1_0_1_2
        (broadcastInDim S4x512x512 ![0, 1, 2] bcast_S4x1x1_S4x512x512_0_1_2 (wrap bcast_S_S4x1x1 4#32 B))⟩,
     ⟨S4x512x512x1, broadcastInDim S4x512x512x1 ![0, 1, 2] bcast_S4x512x512_S4x512x512x1_0_1_2
        (broadcastInDim S4x512x512 ![0, 1, 2] bcast_S1x512x1_S4x512x512_0_1_2 (wrap bcast_S_S1x512x1 16#32 Y))⟩,
     ⟨S4x512x512x1, broadcastInDim S4x512x512x1 ![0, 1, 2] bcast_S4x512x512_S4x512x512x1_0_1_2
        (broadcastInDim S4x512x512 ![0, 1, 2] bcast_S1x1x512_S4x512x512_0_1_2 (wrap bcast_S_S1x1x512 16#32 X))⟩,
     ⟨S4x512x512x1, broadcastInDim S4x512x512x1 ![0, 1, 2] bcast_S4x512x512_S4x512x512x1_0_1_2 (wrap bcast_S_S4x512x512 8#32 Z)⟩]
    concatenates_S4x512x512x1_S4x512x512x1_S4x512x512x1_S4x512x512x1_S4x512x512x4_d3

theorem starts0 (B : IVec S4x1x1 32) (Y : IVec S1x512x1 32) (X : IVec S1x1x512 32) (Z : IVec S4x512x512 32) (b : Fin 4) (r q : Fin 512) :
    starts B Y X Z (ix4 b r q 0) = wrap bcast_S_S4x1x1 4#32 B (ix3 b 0 0) := by
  pointwise [starts]
theorem starts1 (B : IVec S4x1x1 32) (Y : IVec S1x512x1 32) (X : IVec S1x1x512 32) (Z : IVec S4x512x512 32) (b : Fin 4) (r q : Fin 512) :
    starts B Y X Z (ix4 b r q 1) = wrap bcast_S_S1x512x1 16#32 Y (ix3 0 r 0) := by
  pointwise [starts]
theorem starts2 (B : IVec S4x1x1 32) (Y : IVec S1x512x1 32) (X : IVec S1x1x512 32) (Z : IVec S4x512x512 32) (b : Fin 4) (r q : Fin 512) :
    starts B Y X Z (ix4 b r q 2) = wrap bcast_S_S1x1x512 16#32 X (ix3 0 0 q) := by
  pointwise [starts]
theorem starts3 (B : IVec S4x1x1 32) (Y : IVec S1x512x1 32) (X : IVec S1x1x512 32) (Z : IVec S4x512x512 32) (b : Fin 4) (r q : Fin 512) :
    starts B Y X Z (ix4 b r q 3) = wrap bcast_S_S4x512x512 8#32 Z (ix3 b r q) := by
  pointwise [starts]

/-- The gather of `G` at the four index arrays. -/
def corner {α : Type} (G : S4x16x16x8x12.Idx → α) (B : IVec S4x1x1 32) (Y : IVec S1x512x1 32) (X : IVec S1x1x512 32) (Z : IVec S4x512x512 32) :
    S4x512x512x12.Idx → α :=
  Host.gather gather_S4x16x16x8x12_S4x512x512x4_S4x512x512x12_3_0123_n_n_0123_3_111112 G (starts B Y X Z)

/-- The gather's dimension numbers. -/
abbrev dims := gather_S4x16x16x8x12_S4x512x512x4_S4x512x512x12_3_0123_n_n_0123_3_111112

theorem mem_map : ∀ a : Fin 5, a.val < 4 → a ∈ dims.startIndexMap := by decide
theorem not_kept : ∀ a : Fin 5, a.val < 4 → a ∉ dims.sKept := by decide
theorem last_not_mem : (4 : Fin 5) ∉ dims.startIndexMap := by decide

theorem start_idx (b : Fin 4) (r q : Fin 512) (c : Fin 12) (k : Fin 4) (h : k.val < dims.startIndexMap.length) :
    dims.siIdx (ix4 b r q c) ⟨k.val, h⟩ = ix4 b r q k := by
  funext a; refine Fin.ext ?_
  match a with
  | ⟨0, _⟩ => rfl
  | ⟨1, _⟩ => rfl
  | ⟨2, _⟩ => rfl
  | ⟨3, _⟩ => rfl

/-- The operand's coordinate on a gathered axis: the start index's number there, clamped into the axis. -/
theorem coord_start (I : IVec S4x512x512x4 32) (b : Fin 4) (r q : Fin 512) (c : Fin 12) (k : Fin 4) :
    dims.start (ix4 b r q c) I k.castSucc + dims.batchCoord (ix4 b r q c) k.castSucc + dims.offCoord (ix4 b r q c) k.castSucc
      = min (I (ix4 b r q k)).toInt.toNat (S4x16x16x8x12.size k.castSucc - 1) := by
  rw [GatherDims.batchCoord_eq_zero _ _ _ List.not_mem_nil, Nat.add_zero,
    GatherDims.offCoord_eq_zero _ _ _ (not_kept k.castSucc k.isLt), Nat.add_zero]
  unfold GatherDims.start; rw [dif_pos (mem_map k.castSucc k.isLt)]
  match k with
  | ⟨0, _⟩ => exact congrArg (fun j => min (I j).toInt.toNat 3) (start_idx b r q c 0 (by decide))
  | ⟨1, _⟩ => exact congrArg (fun j => min (I j).toInt.toNat 15) (start_idx b r q c 1 (by decide))
  | ⟨2, _⟩ => exact congrArg (fun j => min (I j).toInt.toNat 15) (start_idx b r q c 2 (by decide))
  | ⟨3, _⟩ => exact congrArg (fun j => min (I j).toInt.toNat 7) (start_idx b r q c 3 (by decide))

/-- The operand's coordinate on the channel axis: the channel. -/
theorem coord_last (I : IVec S4x512x512x4 32) (b : Fin 4) (r q : Fin 512) (c : Fin 12) :
    dims.start (ix4 b r q c) I (4 : Fin 5) + dims.batchCoord (ix4 b r q c) (4 : Fin 5) + dims.offCoord (ix4 b r q c) (4 : Fin 5) = c.val := by
  rw [GatherDims.batchCoord_eq_zero _ _ _ List.not_mem_nil, Nat.add_zero]
  unfold GatherDims.start; rw [dif_neg last_not_mem, Nat.zero_add]
  rfl

/-- The gather read at an index: the operand at the start index there, each of its four numbers clamped into its axis. -/
theorem gather_read {α : Type} (G : S4x16x16x8x12.Idx → α) (I : IVec S4x512x512x4 32) (b : Fin 4) (r q : Fin 512) (c : Fin 12) :
    Host.gather dims G I (ix4 b r q c)
      = G (ix5 ⟨min (I (ix4 b r q 0)).toInt.toNat 3, by omega⟩ ⟨min (I (ix4 b r q 1)).toInt.toNat 15, by omega⟩
          ⟨min (I (ix4 b r q 2)).toInt.toNat 15, by omega⟩ ⟨min (I (ix4 b r q 3)).toInt.toNat 7, by omega⟩ c) := by
  unfold Host.gather
  congr 1
  funext a
  refine Fin.ext ?_
  match a with
  | ⟨0, _⟩ => exact coord_start I b r q c 0
  | ⟨1, _⟩ => exact coord_start I b r q c 1
  | ⟨2, _⟩ => exact coord_start I b r q c 2
  | ⟨3, _⟩ => exact coord_start I b r q c 3
  | ⟨4, _⟩ => exact coord_last I b r q c

/-- A small whole number's word, read signed. -/
theorem toNat_word (k : ℕ) (hk : k < 16) : (BitVec.ofNat 32 k).toInt.toNat = k := by interval_cases k <;> decide

/-- A corner at a pixel and a channel, where the index arrays hold `b`, `y`, `x` and `z` there. -/
theorem corner_apply {α : Type} (G : S4x16x16x8x12.Idx → α) (B : IVec S4x1x1 32) (Y : IVec S1x512x1 32) (X : IVec S1x1x512 32)
    (Z : IVec S4x512x512 32) (b : Fin 4) (r q : Fin 512) (c : Fin 12) (y x : Fin 16) (z : Fin 8)
    (hB : B (ix3 b 0 0) = BitVec.ofNat 32 b.val) (hY : Y (ix3 0 r 0) = BitVec.ofNat 32 y.val)
    (hX : X (ix3 0 0 q) = BitVec.ofNat 32 x.val) (hZ : Z (ix3 b r q) = BitVec.ofNat 32 z.val) :
    corner G B Y X Z (ix4 b r q c) = G (ix5 b y x z c) := by
  unfold corner
  rw [gather_read]
  simp only [starts0, starts1, starts2, starts3]
  simp only [wrap_apply _ _ _ _ b.val (by omega) hB, wrap_apply _ _ _ _ y.val (by omega) hY,
    wrap_apply _ _ _ _ x.val (by omega) hX, wrap_apply _ _ _ _ z.val (by omega) hZ,
    toNat_word b.val (by omega), toNat_word y.val (by omega), toNat_word x.val (by omega), toNat_word z.val (by omega)]
  congr 2 <;> (refine Fin.ext ?_; show min _ _ = _; omega)

end Cert.Slice

end
-- ==== Proof.Reference.lean ====
/-
  What the reference computes: at batch entry `b`, channel `c`, pixel row `r` and column `q` its result is the
  trilinear slice of that channel's cells, at the depth the guide gives there (`reference_apply`).
-/
module

public import proofs.«01_k».proof.Proof.Position
public import proofs.«01_k».proof.Proof.Corner
public import proofs.«01_k».proof.Proof.Gen.ReferenceIdeal.Read

@[expose] public section

set_option maxRecDepth 16384

noncomputable section

namespace Cert.Slice

open Cert.ReferenceIdeal Cert.ReferenceIdeal.Gen Cert.ReferenceIdeal.Read Idealize.ShloMosaic

/-! ## The arrays of the sum -/

section
variable {F : FTy → Type} [FloatOps F]

/-- Row weights over the whole result. -/
def spreadY (w : FVec F S1x512x1x1 .f32) : FVec F S4x512x512x12 .f32 :=
  broadcastInDim S4x512x512x12 ![0, 1, 2, 3] bcast_S1x512x1x1_S4x512x512x12_0_1_2_3 w
/-- Column weights over the whole result. -/
def spreadX (w : FVec F S1x1x512x1 .f32) : FVec F S4x512x512x12 .f32 :=
  broadcastInDim S4x512x512x12 ![0, 1, 2, 3] bcast_S1x1x512x1_S4x512x512x12_0_1_2_3 w
/-- Depth weights over the whole result. -/
def spreadZ (w : FVec F S4x512x512x1 .f32) : FVec F S4x512x512x12 .f32 :=
  broadcastInDim S4x512x512x12 ![0, 1, 2, 3] bcast_S4x512x512x1_S4x512x512x12_0_1_2_3 w

/-- One minus the row weights. -/
def restY : FVec F S1x512x1x1 .f32 := subf (fill S1x512x1x1 bcast_S_S1x512x1x1 0x3F800000#32) (val_main_v55 (F := F))
/-- One minus the column weights. -/
def restX : FVec F S1x1x512x1 .f32 := subf (fill S1x1x512x1 bcast_S_S1x1x512x1 0x3F800000#32) (val_main_v54 (F := F))
/-- One minus the depth weights. -/
def restZ (x1 : FVec F S4x1x512x512 .f32) : FVec F S4x512x512x1 .f32 :=
  subf (fill S4x512x512x1 bcast_S_S4x512x512x1 0x3F800000#32) (val_main_v56 (F := F) x1)

/-- One of the eight terms: a corner times its three weights. -/
def term (C : FVec F S4x512x512x12 .f32) (wy : FVec F S1x512x1x1 .f32) (wx : FVec F S1x1x512x1 .f32)
    (wz : FVec F S4x512x512x1 .f32) : FVec F S4x512x512x12 .f32 :=
  mulf (mulf (mulf C (spreadY wy)) (spreadX wx)) (spreadZ wz)

variable (x0 : FVec F S4x12x8x16x16 .f32) (x1 : FVec F S4x1x512x512 .f32)

/-- The corner of the reference at one choice of row, column and depth cells. -/
abbrev at_ (Y : IVec S1x512x1 32) (X : IVec S1x1x512 32) (Z : IVec S4x512x512 32) : FVec F S4x512x512x12 .f32 :=
  corner (val_main_v0 (F := F) x0) (val_main_v49 (F := F)) Y X Z

/-- The reference's sum is eight terms, one per corner. -/
theorem sum_eq : val_main_v367 (F := F) x0 x1 =
    addf (addf (addf (addf (addf (addf (addf
      (term (at_ x0 (val_main_v50 (F := F)) (val_main_v52 (F := F)) (val_main_v43 (F := F) x1)) restY restX (restZ x1))
      (term (at_ x0 (val_main_v50 (F := F)) (val_main_v52 (F := F)) (val_main_v47 (F := F) x1)) restY restX (val_main_v56 (F := F) x1)))
      (term (at_ x0 (val_main_v50 (F := F)) (val_main_v53 (F := F)) (val_main_v43 (F := F) x1)) restY (val_main_v54 (F := F)) (restZ x1)))
      (term (at_ x0 (val_main_v50 (F := F)) (val_main_v53 (F := F)) (val_main_v47 (F := F) x1)) restY (val_main_v54 (F := F)) (val_main_v56 (F := F) x1)))
      (term (at_ x0 (val_main_v51 (F := F)) (val_main_v52 (F := F)) (val_main_v43 (F := F) x1)) (val_main_v55 (F := F)) restX (restZ x1)))
      (term (at_ x0 (val_main_v51 (F := F)) (val_main_v52 (F := F)) (val_main_v47 (F := F) x1)) (val_main_v55 (F := F)) restX (val_main_v56 (F := F) x1)))
      (term (at_ x0 (val_main_v51 (F := F)) (val_main_v53 (F := F)) (val_main_v43 (F := F) x1)) (val_main_v55 (F := F)) (val_main_v54 (F := F)) (restZ x1)))
      (term (at_ x0 (val_main_v51 (F := F)) (val_main_v53 (F := F)) (val_main_v47 (F := F) x1)) (val_main_v55 (F := F)) (val_main_v54 (F := F)) (val_main_v56 (F := F) x1)) := rfl

/-! ## The arrays at an index -/

theorem spreadY_apply (w : FVec F S1x512x1x1 .f32) (b : Fin 4) (r q : Fin 512) (c : Fin 12) :
    spreadY w (ix4 b r q c) = w (ix4 0 r 0 0) := by
  pointwise [spreadY]
theorem spreadX_apply (w : FVec F S1x1x512x1 .f32) (b : Fin 4) (r q : Fin 512) (c : Fin 12) :
    spreadX w (ix4 b r q c) = w (ix4 0 0 q 0) := by
  pointwise [spreadX]
theorem spreadZ_apply (w : FVec F S4x512x512x1 .f32) (b : Fin 4) (r q : Fin 512) (c : Fin 12) :
    spreadZ w (ix4 b r q c) = w (ix4 b r q 0) := by
  pointwise [spreadZ]

/-- The reference's two position vectors are the same vector. -/
theorem v27_eq : val_main_v27 (F := F) = weight := rfl
theorem v28_eq : val_main_v28 (F := F) = weight := rfl
theorem v31_eq : val_main_v31 (F := F) = below F := rfl
theorem v35_eq : val_main_v35 (F := F) = above F := rfl
theorem v37_eq : val_main_v37 (F := F) = below F := rfl
theorem v41_eq : val_main_v41 (F := F) = above F := rfl

theorem v50_apply (r : Fin 512) : val_main_v50 (F := F) (ix3 0 r 0) = below F (ix1 r) := by
  rw [val_main_v50_apply, v37_eq]; exact congrArg _ (eq_ix1 _)
theorem v51_apply (r : Fin 512) : val_main_v51 (F := F) (ix3 0 r 0) = above F (ix1 r) := by
  rw [val_main_v51_apply, v41_eq]; exact congrArg _ (eq_ix1 _)
theorem v52_apply (q : Fin 512) : val_main_v52 (F := F) (ix3 0 0 q) = below F (ix1 q) := by
  rw [val_main_v52_apply, v31_eq]; exact congrArg _ (eq_ix1 _)
theorem v53_apply (q : Fin 512) : val_main_v53 (F := F) (ix3 0 0 q) = above F (ix1 q) := by
  rw [val_main_v53_apply, v35_eq]; exact congrArg _ (eq_ix1 _)
theorem v54_apply (q : Fin 512) : val_main_v54 (F := F) (ix4 0 0 q 0) = weight (ix1 q) := by
  rw [val_main_v54_apply, v27_eq]; exact congrArg _ (eq_ix1 _)
theorem v55_apply (r : Fin 512) : val_main_v55 (F := F) (ix4 0 r 0 0) = weight (ix1 r) := by
  rw [val_main_v55_apply, v28_eq]; exact congrArg _ (eq_ix1 _)
theorem v49_apply (b : Fin 4) : val_main_v49 (F := F) (ix3 b 0 0) = BitVec.ofNat 32 b.val := by
  rw [val_main_v49_apply]; rfl

theorem v0_apply (b : Fin 4) (y x : Fin 16) (z : Fin 8) (c : Fin 12) :
    val_main_v0 x0 (ix5 b y x z c) = x0 (ix5 b c z y x) := by
  rw [val_main_v0_apply]; exact congrArg x0 (eq_ix5 _)

theorem v1_apply (b : Fin 4) (r q : Fin 512) : val_main_v1 x1 (ix3 b r q) = x1 (ix4 b 0 r q) := by
  rw [val_main_v1_apply]; refine congrArg x1 ((eq_ix4 _).trans ?_)
  have hb := b.isLt; have hr := r.isLt; have hq := q.isLt
  congr 1 <;> apply Fin.ext
  · show ((b.val * 512 + r.val) * 512 + q.val) / 262144 = b.val; omega
  · show ((b.val * 512 + r.val) * 512 + q.val) / 512 % 512 = r.val; omega
  · show ((b.val * 512 + r.val) * 512 + q.val) % 512 = q.val; omega

end

/-! ## The arrays' values -/

section
variable (x0 : FVec Ideal S4x12x8x16x16 .f32) (x1 : FVec Ideal S4x1x512x512 .f32)

/-- One minus a real weight. -/
theorem one_sub_word (w : ℝ) : Ideal.ofBits .f32 0x3F800000#32 - (w : EReal) = ((1 - w : ℝ) : EReal) := by
  rw [Ideal.ofBits_one_f32, EReal.coe_sub, EReal.coe_one]

theorem wy_apply (r : Fin 512) : val_main_v55 (F := Ideal) (ix4 0 r 0 0) = ((frac r : ℝ) : EReal) := by
  rw [v55_apply, weight_apply]
theorem wx_apply (q : Fin 512) : val_main_v54 (F := Ideal) (ix4 0 0 q 0) = ((frac q : ℝ) : EReal) := by
  rw [v54_apply, weight_apply]
theorem restY_apply (r : Fin 512) : restY (F := Ideal) (ix4 0 r 0 0) = ((1 - frac r : ℝ) : EReal) := by
  show Ideal.ofBits .f32 0x3F800000#32 - val_main_v55 (F := Ideal) (ix4 0 r 0 0) = _
  rw [wy_apply, one_sub_word]
theorem restX_apply (q : Fin 512) : restX (F := Ideal) (ix4 0 0 q 0) = ((1 - frac q : ℝ) : EReal) := by
  show Ideal.ofBits .f32 0x3F800000#32 - val_main_v54 (F := Ideal) (ix4 0 0 q 0) = _
  rw [wx_apply, one_sub_word]

variable {x1} {b : Fin 4} {r q : Fin 512} {g : ℝ} (hg : x1 (ix4 b 0 r q) = ((g : ℝ) : EReal))
include hg

/-- The depth the guide gives. -/
theorem depth_apply : val_main_v23 (F := Ideal) x1 (ix3 b r q) = ((8 * g - 1 / 2 : ℝ) : EReal) := by
  show val_main_v1 (F := Ideal) x1 (ix3 b r q) * Ideal.ofBits .f32 0x41000000#32 - Ideal.ofBits .f32 0x3F000000#32 = _
  rw [v1_apply, hg, word_eight, word_half, ← EReal.coe_mul, ← EReal.coe_sub]
  congr 1; ring

theorem wz_apply : val_main_v56 (F := Ideal) x1 (ix4 b r q 0) = ((8 * g - 1 / 2 - (⌊8 * g - 1 / 2⌋ : ℝ) : ℝ) : EReal) := by
  rw [val_main_v56_apply, show idx_main_v56 (ix4 b r q 0) = ix3 b r q from eq_ix3 _]
  show val_main_v23 (F := Ideal) x1 (ix3 b r q) - Ideal.liftRound Int.floor (val_main_v23 (F := Ideal) x1 (ix3 b r q)) = _
  rw [depth_apply hg, Ideal.liftRound_coe, ← EReal.coe_sub]

theorem restZ_apply : restZ x1 (ix4 b r q 0) = ((1 - (8 * g - 1 / 2 - (⌊8 * g - 1 / 2⌋ : ℝ)) : ℝ) : EReal) := by
  show Ideal.ofBits .f32 0x3F800000#32 - val_main_v56 (F := Ideal) x1 (ix4 b r q 0) = _
  rw [wz_apply hg, one_sub_word]

theorem z0_apply : val_main_v43 (F := Ideal) x1 (ix3 b r q) = BitVec.ofNat 32 (clip8 ⌊8 * g - 1 / 2⌋).val := by
  rw [← depth_below, ← depth_apply hg]; rfl

theorem z1_apply (h : ⌊8 * g - 1 / 2⌋ < 2 ^ 31 - 1) :
    val_main_v47 (F := Ideal) x1 (ix3 b r q) = BitVec.ofNat 32 (clip8 (⌊8 * g - 1 / 2⌋ + 1)).val := by
  rw [← depth_above _ h, ← depth_apply hg]; rfl

omit hg in
/-- A corner at an index: the cell its four whole numbers name. -/
theorem at_apply (Y : IVec S1x512x1 32) (X : IVec S1x1x512 32) (Z : IVec S4x512x512 32) (c : Fin 12) (y x : Fin 16) (z : Fin 8)
    (hY : Y (ix3 0 r 0) = BitVec.ofNat 32 y.val) (hX : X (ix3 0 0 q) = BitVec.ofNat 32 x.val)
    (hZ : Z (ix3 b r q) = BitVec.ofNat 32 z.val) :
    at_ (F := Ideal) x0 Y X Z (ix4 b r q c) = x0 (ix5 b c z y x) :=
  (corner_apply _ _ Y X Z b r q c y x z (v49_apply b) hY hX hZ).trans (v0_apply x0 b y x z c)

omit hg in
/-- A term at an index. -/
theorem term_apply (C : FVec Ideal S4x512x512x12 .f32) (wy : FVec Ideal S1x512x1x1 .f32) (wx : FVec Ideal S1x1x512x1 .f32)
    (wz : FVec Ideal S4x512x512x1 .f32) (c : Fin 12) (v a d e : EReal) (hC : C (ix4 b r q c) = v)
    (hy : wy (ix4 0 r 0 0) = a) (hx : wx (ix4 0 0 q 0) = d) (hz : wz (ix4 b r q 0) = e) :
    term C wy wx wz (ix4 b r q c) = v * a * d * e := by
  show C (ix4 b r q c) * spreadY wy (ix4 b r q c) * spreadX wx (ix4 b r q c) * spreadZ wz (ix4 b r q c) = _
  rw [spreadY_apply, spreadX_apply, spreadZ_apply, hC, hy, hx, hz]

/-- The reference's result at an index, for a real guide there whose depth is not past the 32-bit whole numbers. -/
theorem reference_apply (h : ⌊8 * g - 1 / 2⌋ < 2 ^ 31 - 1) (c : Fin 12) :
    val_main_v368 (F := Ideal) x0 x1 (ix4 b c r q) = slice (fun y x z => x0 (ix5 b c z y x)) r q (8 * g - 1 / 2) := by
  have Y0 := (v50_apply (F := Ideal) r).trans (below_apply r)
  have Y1 := (v51_apply (F := Ideal) r).trans (above_apply r)
  have X0 := (v52_apply (F := Ideal) q).trans (below_apply q)
  have X1 := (v53_apply (F := Ideal) q).trans (above_apply q)
  have Z0 := z0_apply hg
  have Z1 := z1_apply hg h
  have wy := wy_apply r
  have wy' := restY_apply r
  have wx := wx_apply q
  have wx' := restX_apply q
  have wz := wz_apply hg
  have wz' := restZ_apply hg
  rw [val_main_v368_apply, show idx_main_v368 (ix4 b c r q) = ix4 b r q c from eq_ix4 _, sum_eq]
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  · exact term_apply _ _ _ _ c _ _ _ _ (at_apply x0 _ _ _ c _ _ _ Y0 X0 Z0) wy' wx' wz'
  · exact term_apply _ _ _ _ c _ _ _ _ (at_apply x0 _ _ _ c _ _ _ Y0 X0 Z1) wy' wx' wz
  · exact term_apply _ _ _ _ c _ _ _ _ (at_apply x0 _ _ _ c _ _ _ Y0 X1 Z0) wy' wx wz'
  · exact term_apply _ _ _ _ c _ _ _ _ (at_apply x0 _ _ _ c _ _ _ Y0 X1 Z1) wy' wx wz
  · exact term_apply _ _ _ _ c _ _ _ _ (at_apply x0 _ _ _ c _ _ _ Y1 X0 Z0) wy wx' wz'
  · exact term_apply _ _ _ _ c _ _ _ _ (at_apply x0 _ _ _ c _ _ _ Y1 X0 Z1) wy wx' wz
  · exact term_apply _ _ _ _ c _ _ _ _ (at_apply x0 _ _ _ c _ _ _ Y1 X1 Z0) wy wx wz'
  · exact term_apply _ _ _ _ c _ _ _ _ (at_apply x0 _ _ _ c _ _ _ Y1 X1 Z1) wy wx wz

end

end Cert.Slice
-- ==== Proof.Arrays.lean ====
/-
  The two arrays the kernel's host code prepares: the rearranged grid, and the matrix that interpolates along the columns.
  `V_grid` and `V_columns` name what the region finds; `grid_apply` and `columns_apply` read them at an index.
-/
module

public import proofs.«01_k».proof.Proof.Position
public import proofs.«01_k».proof.Proof.Corner
public import proofs.«01_k».proof.Proof.Gen.KernelIdeal.Frame
public import Idealize.ShloMosaic.Lib.StableHlo.RunRead
public import Idealize.ShloMosaic.Lib.Routing.Ops

@[expose] public section

set_option maxRecDepth 16384

noncomputable section

namespace Cert.Slice

open Cert.KernelIdeal Cert.KernelIdeal.Gen Idealize.ShloMosaic Idealize.ShloMosaic.TcCoe

section
variable {F : FTy → Type} [FloatOps F]

/-- The grid as the kernel reads it: rows outermost, then depth and channel on one axis, then columns. -/
def grid (x : FVec F S4x12x8x16x16 .f32) : FVec F S4x16x96x16 .bf16 :=
  truncf .bf16 (shapeCast S4x16x96x16 (transpose S4x16x8x12x16 [0, 3, 2, 1, 4] x transposes_S4x12x8x16x16_S4x16x8x12x16_0_3_2_1_4)
    shapeCasts_S4x16x8x12x16_S4x16x96x16) bitsLt_bf16_f32

/-- The identity matrix of 16 columns. -/
def eye : FVec F S16x16 .f32 :=
  uitofp .f32 (cmpi .eq (addi (iotaInDim S16x16 32 0) (fillI S16x16 bcast_S_S16x16 0#32)) (iotaInDim S16x16 32 1))

/-- The identity's rows at 512 numbers. -/
def pick (I : IVec S512 32) : FVec F S512x16 .f32 :=
  Host.gather gather_S16x16_S512x1_S512x16_1_0_n_n_0_1_116 (eye (F := F))
    (broadcastInDim S512x1 ![0] bcast_S512_S512x1_0 (wrap bcast_S_S512 16#32 I))

/-- One number per pixel column, over the 16 grid columns. -/
def spreadW (w : FVec F S512 .f32) : FVec F S512x16 .f32 :=
  broadcastInDim S512x16 ![0, 1] bcast_S512x1_S512x16_0_1 (broadcastInDim S512x1 ![0] bcast_S512_S512x1_0 w)

/-- The matrix that interpolates along the columns. -/
def columns : FVec F S16x512 .bf16 :=
  truncf .bf16 (transpose S16x512 [1, 0]
    (addf (mulf (pick (below F)) (spreadW (subf (fill S512 bcast_S_S512 0x3F800000#32) weight)))
      (mulf (pick (above F)) (spreadW weight))) transposes_S512x16_S16x512_1_0) bitsLt_bf16_f32

variable (m : (ℓ : Loc nD τ sig) → Buf (Elt F) ℓ)

theorem V_grid (c : Dev nD) : V m c main_v2 = grid (m ((c : Thread nD τ).loc main_arg0)) := by
  unfold V
  simp only [List.flatten_cons, List.flatten_nil, List.append_nil, List.cons_append, List.nil_append]
  after_reads_simp
  rfl

theorem V_columns (c : Dev nD) : V m c main_v50 = columns := by
  unfold V
  simp only [List.flatten_cons, List.flatten_nil, List.append_nil, List.cons_append, List.nil_append]
  after_reads_simp
  rfl

end

/-! ## The arrays at an index -/

/-- The grid array's row of depth `z` and channel `c`. -/
def cell (z : Fin 8) (c : Fin 12) : Fin 96 := ⟨z.val * 12 + c.val, by omega⟩

/-- The rearranged grid at an index. -/
theorem grid_apply (x : FVec Ideal S4x12x8x16x16 .f32) (b : Fin 4) (y : Fin 16) (z : Fin 8) (c : Fin 12) (a : Fin 16) :
    grid x (ix4 b y (cell z c) a) = x (ix5 b c z y a) := by
  show shapeCast S4x16x96x16 (transpose S4x16x8x12x16 [0, 3, 2, 1, 4] x _) _ (ix4 b y (cell z c) a) = _
  rw [shapeCast_apply _ shapeCasts_S4x16x8x12x16_S4x16x96x16 (ix4 b y (cell z c) a) (ix5 b y z c a) (by
    rw [Shape.rowMajor_val_five, Shape.rowMajor_val_four]
    show (((b.val * 16 + y.val) * 8 + z.val) * 12 + c.val) * 16 + a.val = ((b.val * 16 + y.val) * 96 + (z.val * 12 + c.val)) * 16 + a.val
    omega)]
  pointwise

/-- The identity matrix at an index. -/
theorem eye_apply (k a : Fin 16) : eye (F := Ideal) (ix2 k a) = if k = a then 1 else 0 := by
  show (((IntOp.cmpi .eq (BitVec.ofNat 32 k.val + 0#32) (BitVec.ofNat 32 a.val)).toNat : ℝ) : EReal) = _
  have h : IntOp.cmpi .eq (BitVec.ofNat 32 k.val + 0#32) (BitVec.ofNat 32 a.val) = if k = a then 1#1 else 0#1 := by
    revert k a; decide
  rw [h]; split_ifs <;> simp

/-- A picked row of the identity. -/
theorem pick_apply (I : IVec S512 32) (q : Fin 512) (k a : Fin 16) (h : I (ix1 q) = BitVec.ofNat 32 k.val) :
    pick (F := Ideal) I (ix2 q a) = if k = a then 1 else 0 := by
  rw [← eye_apply]
  refine Routing.gather_row _ rfl rfl rfl rfl rfl _ _ q a k ?_ (by norm_num)
  rw [← wrap_apply bcast_S_S512 16#32 I (ix1 q) k.val k.isLt h]
  pointwise

theorem spreadW_apply (w : FVec Ideal S512 .f32) (q : Fin 512) (a : Fin 16) : spreadW w (ix2 q a) = w (ix1 q) := by
  pointwise [spreadW]

/-- The column matrix at an index: the two weights of the pixel column, each at its grid column. -/
theorem columns_apply (a : Fin 16) (q : Fin 512) :
    columns (F := Ideal) (ix2 a q)
      = (((if lo q = a then 1 - frac q else 0) + (if hi q = a then frac q else 0) : ℝ) : EReal) := by
  have e : columns (F := Ideal) (ix2 a q) = (addf (mulf (pick (below Ideal)) (spreadW (subf (fill S512 bcast_S_S512 0x3F800000#32) weight)))
      (mulf (pick (above Ideal)) (spreadW (weight (F := Ideal))))) (ix2 q a) := by
    unfold columns
    rw [truncf_apply]
    pointwise
  rw [e]
  show pick (F := Ideal) (below Ideal) (ix2 q a) * spreadW (F := Ideal) _ (ix2 q a)
    + pick (F := Ideal) (above Ideal) (ix2 q a) * spreadW (F := Ideal) _ (ix2 q a) = _
  rw [pick_apply _ q (lo q) a (below_apply q), pick_apply _ q (hi q) a (above_apply q), spreadW_apply, spreadW_apply]
  show _ * (Ideal.ofBits .f32 0x3F800000#32 - weight (F := Ideal) (ix1 q)) + _ * weight (F := Ideal) (ix1 q) = _
  rw [weight_apply, Ideal.ofBits_one_f32, ← EReal.coe_one, ← EReal.coe_sub]
  split_ifs
  · rw [EReal.coe_one, one_mul, one_mul, ← EReal.coe_add]
  all_goals simp

end Cert.Slice
-- ==== Proof.Body.lean ====
/-
  The kernel's body over its blocks, written once for a strip and a channel: `piece` is what the body stores for channel
  `c` in the strip of 16 pixel rows `q`.
-/
module

public import proofs.«01_k».proof.Proof.Arrays

@[expose] public section

set_option maxRecDepth 16384

noncomputable section

namespace Cert.Slice

open Cert.KernelIdeal Cert.KernelIdeal.Gen Idealize.ShloMosaic

variable {F : FTy → Type} [FloatOps F]

/-- Any one row of a block of cells is a slice of it. -/
theorem slices_row (r : Fin 96) : S96x512.Slices ![r.val, 0] S1x512 :=
  ⟨rfl, fun a => match a with
    | ⟨0, _⟩ => by show r.val + 1 ≤ 96; omega
    | ⟨1, _⟩ => Nat.le_refl 512⟩

/-- Any strip of sixteen pixel rows is a slice of a block of pixels. -/
theorem slices_strip (q : Fin 16) : S256x512.Slices ![16 * q.val, 0] S16x512 :=
  ⟨rfl, fun a => match a with
    | ⟨0, _⟩ => by show 16 * q.val + 16 ≤ 256; omega
    | ⟨1, _⟩ => Nat.le_refl 512⟩

/-- A block of cells interpolated along the columns. -/
def interp (x : Vec F S1x1x96x16 .bf16) (a : Vec F S16x512 .bf16) : FVec F S96x512 .bf16 :=
  truncf .bf16 (matmul dot_S96x16_S16x512_S96x512_1_0_0_1_n_n none (shapeCast S96x16 (View.ld x r0_0) shapeCasts_S1x1x96x16_S96x16)
    (shapeCast S16x512 (View.ld a r0_1) shapeCasts_S16x512_S16x512) (constant S96x512 .f32 0x00000000#32)) bitsLt_bf16_f32

/-- The row weights of the strips in the upper half of a cell row, before the half is added. -/
def step : FVec F S16x1 .f32 :=
  mulf (addf (sitofp .f32 (iota .tc S16x1 32 [0] iota_S16x1_d0_w32)) (broadcast S16x1 (Scalar.ofBits .f32 0x3F000000#32)))
    (broadcast S16x1 (Scalar.ofBits .f32 0x3D000000#32))

/-- The row weights of the strips of even number: one half more. -/
def stepEven : FVec F S16x1 .bf16 :=
  truncf .bf16 (addf (step (F := F)) (broadcast S16x1 (Scalar.ofBits .f32 0x3F000000#32))) bitsLt_bf16_f32

/-- The row weights of the strips of odd number. -/
def stepOdd : FVec F S16x1 .bf16 := truncf .bf16 (step (F := F)) bitsLt_bf16_f32

/-- The depths of a block of pixels, clipped to the cells' centres. -/
def depth (g : Vec F S1x1x256x512 .f32) : FVec F S256x512 .f32 :=
  minimumf (broadcast S256x512 (Scalar.ofBits .f32 0x40E00000#32))
    (maximumf (broadcast S256x512 (Scalar.ofBits .f32 0x00000000#32))
      (subf (mulf (shapeCast S256x512 (View.ld g r0_2) shapeCasts_S1x1x256x512_S256x512)
        (broadcast S256x512 (Scalar.ofBits .f32 0x41000000#32))) (broadcast S256x512 (Scalar.ofBits .f32 0x3F000000#32))))

/-- The tent weights of one depth cell, whose number's word is `w`. -/
def tentAt (t : FVec F S256x512 .f32) (w : BitVec 32) : FVec F S256x512 .bf16 :=
  maximumf (broadcast S256x512 (Scalar.ofBits .bf16 0x0000#16))
    (subf (broadcast S256x512 (Scalar.ofBits .bf16 0x3F80#16))
      (absf (truncf .bf16 (subf t (broadcast S256x512 (Scalar.ofBits .f32 w))) bitsLt_bf16_f32)))

/-- A strip of one depth cell's weights. -/
def strip (w : FVec F S256x512 .bf16) (q : Fin 16) : FVec F S16x512 .bf16 :=
  extractStridedSlice S16x512 ![16 * q.val, 0] w (slices_strip q)

/-- The part of a strip's weights that goes to the lower cell row. -/
def lower (w : FVec F S256x512 .bf16) (s : FVec F S16x1 .bf16) (q : Fin 16) : FVec F S16x512 .bf16 :=
  mulf (strip w q) (broadcastTo S16x512 s broadcasts_S16x1_S16x512)

/-- The rest of a strip's weights, for the upper cell row. -/
def upper (w : FVec F S256x512 .bf16) (s : FVec F S16x1 .bf16) (q : Fin 16) : FVec F S16x512 .bf16 :=
  subf (strip w q) (lower w s q)

/-- One row of the interpolated cells, over the strip's sixteen pixel rows. -/
def cells (g : FVec F S96x512 .bf16) (r : Fin 96) : FVec F S16x512 .bf16 :=
  broadcastTo S16x512 (shapeCast S1x512 (shapeCast S512 (extractStridedSlice S1x512 ![r.val, 0] g (slices_row r))
    shapeCasts_S1x512_S512) shapeCasts_S512_S1x512) broadcasts_S1x512_S16x512

/-- One depth cell's contribution to a strip. -/
def layer (ga gb : FVec F S96x512 .bf16) (w : FVec F S256x512 .bf16) (s : FVec F S16x1 .bf16) (q : Fin 16) (r : Fin 96) :
    FVec F S16x512 .bf16 :=
  addf (mulf (upper w s q) (cells ga r)) (mulf (lower w s q) (cells gb r))

/-- A strip of one channel: the eight depth cells' contributions, from the cell rows `ga` above and `gb` below. -/
def channel (ga gb : FVec F S96x512 .bf16) (t : FVec F S256x512 .f32) (s : FVec F S16x1 .bf16) (q : Fin 16) (c : Fin 12) :
    FVec F S1x1x16x512 .f32 :=
  shapeCast S1x1x16x512 (extf .f32
    (addf (addf (addf (addf (addf (addf (addf
      (layer ga gb (tentAt t 0x00000000#32) s q (cell 0 c))
      (layer ga gb (tentAt t 0x3F800000#32) s q (cell 1 c)))
      (layer ga gb (tentAt t 0x40000000#32) s q (cell 2 c)))
      (layer ga gb (tentAt t 0x40400000#32) s q (cell 3 c)))
      (layer ga gb (tentAt t 0x40800000#32) s q (cell 4 c)))
      (layer ga gb (tentAt t 0x40A00000#32) s q (cell 5 c)))
      (layer ga gb (tentAt t 0x40C00000#32) s q (cell 6 c)))
      (layer ga gb (tentAt t 0x40E00000#32) s q (cell 7 c))) bitsLt_bf16_f32) shapeCasts_S16x512_S1x1x16x512

/-- The cell row above strip `q`, among the ten the point's windows hold. -/
def rowOf (q : Fin 16) : Fin 10 := ⟨(q.val + 1) / 2, by omega⟩
/-- The cell row below strip `q`. -/
def rowBelow (q : Fin 16) : Fin 10 := ⟨(q.val + 1) / 2 + 1, by omega⟩

/-- What the body stores for channel `c` in strip `q`. -/
def piece (x : Fin 10 → Vec F S1x1x96x16 .bf16) (a : Vec F S16x512 .bf16) (g : Vec F S1x1x256x512 .f32) (q : Fin 16) (c : Fin 12) :
    FVec F S1x1x16x512 .f32 :=
  channel (interp (x (rowOf q)) a) (interp (x (rowBelow q)) a) (depth g) (if q.val % 2 = 0 then stepEven else stepOdd) q c

end Cert.Slice
-- ==== Proof.Read.lean ====
/-
  What the body stores, read at a pixel: `piece_apply` gives the stored number as the sum over the eight depth cells of
  the interpolated cells times their weights.
-/
module

public import proofs.«01_k».proof.Proof.Body

@[expose] public section

set_option maxRecDepth 16384

noncomputable section

namespace Cert.Slice

open Cert.KernelIdeal Cert.KernelIdeal.Gen Idealize.ShloMosaic

/-! ## Constants -/

theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num
theorem word_five : Ideal.ofBits .f32 0x40A00000#32 = ((5 : ℝ) : EReal) := by
  simp [Ideal.ofBits, Ideal.ieee, -EReal.coe_mul]; norm_num
theorem word_six : Ideal.ofBits .f32 0x40C00000#32 = ((6 : ℝ) : EReal) := by
  simp [Ideal.ofBits, Ideal.ieee, -EReal.coe_mul]; norm_num
theorem word_seven : Ideal.ofBits .f32 0x40E00000#32 = ((7 : ℝ) : EReal) := by
  simp [Ideal.ofBits, Ideal.ieee, -EReal.coe_mul]; norm_num
theorem word_one_32nd : Ideal.ofBits .f32 0x3D000000#32 = ((1 / 32 : ℝ) : EReal) := by
  simp [Ideal.ofBits, Ideal.ieee, -EReal.coe_mul]; norm_num

theorem coe_max (x y : ℝ) : max (x : EReal) (y : EReal) = ((max x y : ℝ) : EReal) :=
  (Monotone.map_max (f := Real.toEReal) EReal.coe_strictMono.monotone).symm
theorem coe_min (x y : ℝ) : min (x : EReal) (y : EReal) = ((min x y : ℝ) : EReal) :=
  (Monotone.map_min (f := Real.toEReal) EReal.coe_strictMono.monotone).symm

/-! ## Columns -/

/-- A block of cells interpolated along the columns, at a row and a pixel column. -/
theorem interp_apply (x : Vec Ideal S1x1x96x16 .bf16) (r : Fin 96) (p : Fin 512) :
    interp x (columns (F := Ideal)) (ix2 r p) = lerp (frac p) (x (ix4 0 0 r (lo p))) (x (ix4 0 0 r (hi p))) := by
  have e : interp x (columns (F := Ideal)) (ix2 r p)
      = 0 + ∑ k : Fin 16, (x (ix4 0 0 r k) : EReal) * (columns (F := Ideal) (ix2 k p) : EReal) := by
    unfold interp
    rw [truncf_apply]
    pointwise [View.ld]
  rw [e, zero_add]
  have wx0 := frac_nonneg p
  have wx1 : 0 ≤ 1 - frac p := by linarith [frac_le_one p]
  have key (k : Fin 16) : (x (ix4 0 0 r k) : EReal) * (columns (F := Ideal) (ix2 k p) : EReal)
      = (if lo p = k then x (ix4 0 0 r k) * ((1 - frac p : ℝ) : EReal) else 0)
        + (if hi p = k then x (ix4 0 0 r k) * ((frac p : ℝ) : EReal) else 0) := by
    rw [columns_apply]
    by_cases h1 : lo p = k <;> by_cases h2 : hi p = k <;> simp only [h1, h2, if_true, if_false]
    · rw [EReal.coe_add, EReal.left_distrib_of_nonneg (by exact_mod_cast wx1) (by exact_mod_cast wx0)]
    all_goals simp
  simp only [key, Finset.sum_add_distrib, Finset.sum_ite_eq, Finset.mem_univ, if_true]
  rfl

/-! ## Weights -/

/-- The clipped depth at a pixel. -/
theorem clipped_depth_apply (g : Vec Ideal S1x1x256x512 .f32) (h : Fin 256) (p : Fin 512) (u : ℝ) (hu : g (ix4 0 0 h p) = (u : EReal)) :
    depth g (ix2 h p) = ((min 7 (max 0 (8 * u - 1 / 2)) : ℝ) : EReal) := by
  have e : depth g (ix2 h p) = min (Ideal.ofBits .f32 0x40E00000#32) (max (Ideal.ofBits .f32 0x00000000#32)
      ((g (ix4 0 0 h p) : EReal) * Ideal.ofBits .f32 0x41000000#32 - Ideal.ofBits .f32 0x3F000000#32)) := by
    pointwise [depth, View.ld]
  rw [e, hu, word_seven, word_eight, word_half, Ideal.ofBits_zero_f32, ← EReal.coe_zero, ← EReal.coe_mul, ← EReal.coe_sub, coe_max,
    coe_min, mul_comm]

/-- A depth cell's weight at a pixel. -/
theorem tentAt_apply (t : FVec Ideal S256x512 .f32) (w : BitVec 32) (z : Fin 8) (hw : Ideal.ofBits .f32 w = ((z.val : ℝ) : EReal))
    (h : Fin 256) (p : Fin 512) (d : ℝ) (ht : t (ix2 h p) = ((min 7 (max 0 d) : ℝ) : EReal)) :
    tentAt t w (ix2 h p) = ((tent d z : ℝ) : EReal) := by
  show max (Ideal.ofBits .bf16 0x0000#16) (Ideal.ofBits .bf16 0x3F80#16
    - max (t (ix2 h p) - Ideal.ofBits .f32 w) (-(t (ix2 h p) - Ideal.ofBits .f32 w))) = _
  rw [ht, hw, Ideal.ofBits_zero_bf16, Ideal.ofBits_one_bf16, ← EReal.coe_sub, ← EReal.coe_neg, coe_max, ← EReal.coe_one, ← EReal.coe_sub,
    ← EReal.coe_zero, coe_max]
  rfl

/-- The row weights before the half is added. -/
theorem step_apply (j : Fin 16) : step (F := Ideal) (ix2 j 0) = ((((j.val : ℝ) + 1 / 2) / 32 : ℝ) : EReal) := by
  have hw : (BitVec.ofNat 32 j.val).toInt = (j.val : ℤ) := by
    rw [BitVec.toInt_ofNat', Int.bmod_def]; omega
  have hi : iota .tc S16x1 32 [0] iota_S16x1_d0_w32 (ix2 j 0) = BitVec.ofNat 32 j.val := by pointwise
  show ((((iota .tc S16x1 32 [0] iota_S16x1_d0_w32 (ix2 j 0)).toInt : ℝ) : EReal) + Ideal.ofBits .f32 0x3F000000#32)
    * Ideal.ofBits .f32 0x3D000000#32 = _
  rw [hi, hw, word_half, word_one_32nd, ← EReal.coe_add, ← EReal.coe_mul, Int.cast_natCast]
  congr 1; ring

/-- The pixel row of row `j` in strip `q` of the upper (`i = 0`) or lower half of the image. -/
def pixel (i : Fin 2) (q j : Fin 16) : Fin 512 := ⟨256 * i.val + 16 * q.val + j.val, by omega⟩

/-- A strip's row weights are its pixel rows' weights. -/
theorem steps_apply (i : Fin 2) (q j : Fin 16) :
    (if q.val % 2 = 0 then stepEven (F := Ideal) else stepOdd) (ix2 j 0) = ((frac (pixel i q j) : ℝ) : EReal) := by
  unfold frac pixel
  split_ifs with h
  · show step (F := Ideal) (ix2 j 0) + Ideal.ofBits .f32 0x3F000000#32 = _
    rw [step_apply, word_half, ← EReal.coe_add]
    have e : (256 * i.val + 16 * q.val + j.val + 16) % 32 = j.val + 16 := by omega
    simp only [e]; congr 1; push_cast; ring
  · show step (F := Ideal) (ix2 j 0) = _
    rw [step_apply]
    have e : (256 * i.val + 16 * q.val + j.val + 16) % 32 = j.val := by omega
    simp only [e]

/-! ## One strip -/

/-- Row `j` of strip `q`, in its block. -/
def row (q j : Fin 16) : Fin 256 := ⟨16 * q.val + j.val, by omega⟩

theorem strip_apply (w : FVec Ideal S256x512 .bf16) (q j : Fin 16) (p : Fin 512) : strip w q (ix2 j p) = w (ix2 (row q j) p) := by
  unfold strip
  refine congrArg w (funext fun a => Fin.ext ?_)
  match a with
  | ⟨0, _⟩ => rfl
  | ⟨1, _⟩ => exact Nat.zero_add _

theorem cells_apply (g : FVec Ideal S96x512 .bf16) (r : Fin 96) (j : Fin 16) (p : Fin 512) : cells g r (ix2 j p) = g (ix2 r p) := by
  have e : cells g r (ix2 j p) = extractStridedSlice S1x512 ![r.val, 0] g (slices_row r) (ix2 0 p) := by
    pointwise [cells]
  rw [e]
  refine congrArg g (funext fun a => Fin.ext ?_)
  match a with
  | ⟨0, _⟩ => exact Nat.add_zero _
  | ⟨1, _⟩ => exact Nat.zero_add _

theorem spread_apply (s : FVec Ideal S16x1 .bf16) (j : Fin 16) (p : Fin 512) :
    broadcastTo S16x512 s broadcasts_S16x1_S16x512 (ix2 j p) = s (ix2 j 0) := by
  pointwise

/-- One depth cell's contribution at a pixel. -/
theorem layer_apply (ga gb : FVec Ideal S96x512 .bf16) (w : FVec Ideal S256x512 .bf16) (s : FVec Ideal S16x1 .bf16) (q : Fin 16)
    (r : Fin 96) (j : Fin 16) (p : Fin 512) (u v : ℝ) (hw : w (ix2 (row q j) p) = (u : EReal)) (hs : s (ix2 j 0) = (v : EReal)) :
    layer ga gb w s q r (ix2 j p)
      = ((u - u * v : ℝ) : EReal) * (ga (ix2 r p) : EReal) + ((u * v : ℝ) : EReal) * (gb (ix2 r p) : EReal) := by
  show (strip w q (ix2 j p) - strip w q (ix2 j p) * broadcastTo S16x512 s broadcasts_S16x1_S16x512 (ix2 j p)) * cells ga r (ix2 j p)
    + (strip w q (ix2 j p) * broadcastTo S16x512 s broadcasts_S16x1_S16x512 (ix2 j p)) * cells gb r (ix2 j p) = _
  rw [strip_apply, spread_apply, cells_apply, cells_apply, hw, hs, ← EReal.coe_mul, ← EReal.coe_sub]

/-- A strip of one channel at a pixel: the sum over the eight depth cells. -/
theorem channel_apply (ga gb : FVec Ideal S96x512 .bf16) (t : FVec Ideal S256x512 .f32) (s : FVec Ideal S16x1 .bf16) (q : Fin 16)
    (c : Fin 12) (j : Fin 16) (p : Fin 512) (d v : ℝ) (ht : t (ix2 (row q j) p) = ((min 7 (max 0 d) : ℝ) : EReal))
    (hs : s (ix2 j 0) = (v : EReal)) :
    channel ga gb t s q c (ix4 0 0 j p)
      = ∑ z : Fin 8, (((tent d z - tent d z * v : ℝ) : EReal) * (ga (ix2 (cell z c) p) : EReal)
          + ((tent d z * v : ℝ) : EReal) * (gb (ix2 (cell z c) p) : EReal)) := by
  have L (w : BitVec 32) (z : Fin 8) (hw : Ideal.ofBits .f32 w = ((z.val : ℝ) : EReal)) :=
    layer_apply ga gb (tentAt t w) s q (cell z c) j p (tent d z) v (tentAt_apply t w z hw (row q j) p d ht) hs
  unfold channel
  rw [shapeCast_apply _ shapeCasts_S16x512_S1x1x16x512 (ix4 0 0 j p) (ix2 j p) (by
    rw [Shape.rowMajor_val_two, Shape.rowMajor_val_four]
    show j.val * 512 + p.val = ((0 * 1 + 0) * 16 + j.val) * 512 + p.val
    omega), Fin.sum_univ_eight]
  rw [← L 0x00000000#32 0 (by rw [Ideal.ofBits_zero_f32]; simp), ← L 0x3F800000#32 1 (by rw [Ideal.ofBits_one_f32]; simp),
    ← L 0x40000000#32 2 (by rw [word_two]; simp), ← L 0x40400000#32 3 (by rw [word_three]; simp),
    ← L 0x40800000#32 4 (by rw [word_four]; simp), ← L 0x40A00000#32 5 (by rw [word_five]; simp),
    ← L 0x40C00000#32 6 (by rw [word_six]; simp), ← L 0x40E00000#32 7 (by rw [word_seven]; simp)]
  rfl

/-- What the body stores, at a pixel. -/
theorem piece_apply (x : Fin 10 → Vec Ideal S1x1x96x16 .bf16) (g : Vec Ideal S1x1x256x512 .f32) (i : Fin 2) (q : Fin 16) (c : Fin 12)
    (j : Fin 16) (p : Fin 512) (u : ℝ) (hu : g (ix4 0 0 (row q j) p) = (u : EReal)) :
    piece x (columns (F := Ideal)) g q c (ix4 0 0 j p)
      = ∑ z : Fin 8, (((tent (8 * u - 1 / 2) z - tent (8 * u - 1 / 2) z * frac (pixel i q j) : ℝ) : EReal)
            * lerp (frac p) (x (rowOf q) (ix4 0 0 (cell z c) (lo p))) (x (rowOf q) (ix4 0 0 (cell z c) (hi p)))
          + ((tent (8 * u - 1 / 2) z * frac (pixel i q j) : ℝ) : EReal)
            * lerp (frac p) (x (rowBelow q) (ix4 0 0 (cell z c) (lo p))) (x (rowBelow q) (ix4 0 0 (cell z c) (hi p)))) := by
  unfold piece
  rw [channel_apply _ _ _ _ q c j p (8 * u - 1 / 2) (frac (pixel i q j)) (clipped_depth_apply g (row q j) p u hu) (steps_apply i q j)]
  simp only [interp_apply]

end Cert.Slice
-- ==== Proof.Tiles.lean ====
/-
  The 192 stores of the kernel's body are the pieces of `Body.lean`, one per strip and channel, and they fill the block.
-/
module

public import proofs.«01_k».proof.Proof.Read
public import Idealize.ShloMosaic.Lib.Pipeline.ValueKit.Tiles

@[expose] public section

set_option maxRecDepth 16384

noncomputable section

namespace Cert.Slice

open Cert.KernelIdeal Cert.KernelIdeal.Gen Idealize.ShloMosaic

variable {F : FTy → Type} [FloatOps F]

/-- Where channel `c` of strip `q` lies in the output block. -/
abbrev place (q : Fin 16) (c : Fin 12) : Rect S1x12x256x512 :=
  Rect.unit (s := S1x12x256x512) ![0, c.val, 16 * q.val, 0] S1x1x16x512.size (fun a => match a with
    | ⟨0, _⟩ => Nat.le_refl 1
    | ⟨1, _⟩ => by show c.val + 1 ≤ 12; omega
    | ⟨2, _⟩ => by show 16 * q.val + 16 ≤ 256; omega
    | ⟨3, _⟩ => Nat.le_refl 512)

variable (x : Fin 10 → Vec F S1x1x96x16 .bf16) (a : Vec F S16x512 .bf16) (g : Vec F S1x1x256x512 .f32)

/-- One strip's stores, last first. -/
def stripTiles (q : Fin 16) : List (View.Piece (Elt F) S1x12x256x512 .f32) :=
  [11, 10, 9, 8, 7, 6, 5, 4, 3, 2, 1, 0].map fun c => ⟨place q c, piece x a g q c⟩

/-- All the stores, last first. -/
def tiles : List (View.Piece (Elt F) S1x12x256x512 .f32) :=
  [15, 14, 13, 12, 11, 10, 9, 8, 7, 6, 5, 4, 3, 2, 1, 0].flatMap (stripTiles x a g)

set_option maxHeartbeats 0 in
/-- What the body leaves in the output block is what these stores leave. -/
theorem out_eq : out0_12 (x 0) (x 1) (x 2) (x 3) (x 4) (x 5) (x 6) (x 7) (x 8) (x 9) a g = View.canon (tiles x a g) := by
  unfold out0_12
  exact congrArg View.canon rfl

/-- Every strip and channel is among the stores. -/
theorem mem_tiles (q : Fin 16) (c : Fin 12) :
    (⟨place q c, piece x a g q c⟩ : View.Piece (Elt F) S1x12x256x512 .f32) ∈ tiles x a g :=
  List.mem_flatMap.2 ⟨q, by revert q; decide, List.mem_map.2 ⟨c, by revert c; decide, rfl⟩⟩

/-- Where an index of a store lies in the block. -/
theorem place_emb (q : Fin 16) (c : Fin 12) (j : Fin 16) (p : Fin 512) :
    (place q c).emb (ix4 0 0 j p : S1x1x16x512.Idx) = (ix4 0 c (row q j) p : S1x12x256x512.Idx) := by
  refine funext fun b => Fin.ext ?_
  rw [Rect.emb_apply]
  match b with
  | ⟨0, _⟩ => rfl
  | ⟨1, _⟩ => show c.val + 1 * 0 = c.val; omega
  | ⟨2, _⟩ => show 16 * q.val + 1 * j.val = 16 * q.val + j.val; omega
  | ⟨3, _⟩ => show 0 + 1 * p.val = p.val; omega

/-- What the body leaves in the output block, at an index. -/
theorem out_apply (c : Fin 12) (q j : Fin 16) (p : Fin 512) :
    out0_12 (x 0) (x 1) (x 2) (x 3) (x 4) (x 5) (x 6) (x 7) (x 8) (x 9) a g (ix4 0 c (row q j) p)
      = piece x a g q c (ix4 0 0 j p) := by
  rw [out_eq]
  refine View.canon_eq_of_allAt _ _ _ ⟨_, mem_tiles x a g q c, ?_⟩ ?_
  · rw [← place_emb]; exact (place q c).idx_mem _
  · intro t ht y hy
    obtain ⟨q', _, hq⟩ := List.mem_flatMap.1 ht
    obtain ⟨c', _, rfl⟩ := List.mem_map.1 hq
    obtain ⟨j', p', rfl⟩ : ∃ (j' : Fin 16) (p' : Fin 512), y = (ix4 0 0 j' p' : S1x1x16x512.Idx) :=
      ⟨y 2, y 3, (eq_ix4 y).trans (by congr 1 <;> exact Subsingleton.elim (α := Fin 1) _ _)⟩
    rw [place_emb] at hy
    have hc : c' = c := congrFun hy 1
    have hr : row q' j' = row q j := congrFun hy 2
    have hp : p' = p := congrFun hy 3
    have hv : 16 * q'.val + j'.val = 16 * q.val + j.val := congrArg Fin.val hr
    have hq' : q' = q := Fin.ext (by omega)
    have hj : j' = j := Fin.ext (by omega)
    subst hc hq' hj hp
    rfl

/-- The same, the ten blocks of cell rows named one by one. -/
theorem out_apply_of (x0 x1 x2 x3 x4 x5 x6 x7 x8 x9 : Vec F S1x1x96x16 .bf16) (c : Fin 12) (q j : Fin 16) (p : Fin 512) :
    out0_12 x0 x1 x2 x3 x4 x5 x6 x7 x8 x9 a g (ix4 0 c (row q j) p)
      = piece ![x0, x1, x2, x3, x4, x5, x6, x7, x8, x9] a g q c (ix4 0 0 j p) :=
  out_apply ![x0, x1, x2, x3, x4, x5, x6, x7, x8, x9] a g c q j p

end Cert.Slice
-- ==== Proof.Blocks.lean ====
/-
  The kernel's result array: each grid point's blocks at an index, and `kernel_result`, which says that the array holds the
  slice at every index.
-/
module

public import proofs.«01_k».proof.Proof.Tiles
public import proofs.«01_k».proof.Proof.Gen.KernelIdeal.Value
public import Idealize.ShloMosaic.Lib.Pipeline.ValueKit.Point

@[expose] public section

set_option maxRecDepth 16384

noncomputable section

namespace Cert.Slice

open Cert.KernelIdeal Cert.KernelIdeal.Gen Idealize.ShloMosaic Idealize.ShloMosaic.TcCoe
open Idealize.ShloMosaic.Pipeline (Dat)

/-- The cell row that window `k` holds in half `i` of the image. -/
def cellRow (i : Fin 2) (k : Fin 10) : Fin 16 := ⟨min (8 * i.val + k.val - 1) 15, by omega⟩

theorem cellRow_rowOf (i : Fin 2) (q j : Fin 16) : cellRow i (rowOf q) = lo (pixel i q j) := by
  apply Fin.ext
  show min (8 * i.val + (q.val + 1) / 2 - 1) 15 = (256 * i.val + 16 * q.val + j.val + 16) / 32 - 1
  omega

theorem cellRow_rowBelow (i : Fin 2) (q j : Fin 16) : cellRow i (rowBelow q) = hi (pixel i q j) := by
  apply Fin.ext
  show min (8 * i.val + ((q.val + 1) / 2 + 1) - 1) 15 = min ((256 * i.val + 16 * q.val + j.val + 16) / 32) 15
  omega

/-! ## Where the blocks lie -/

/-- The image of a grid point. -/
def image (t : Fin cfg0.N) : Fin 4 := grid0.coords t 0
/-- The half of the image of a grid point. -/
def half (t : Fin cfg0.N) : Fin 2 := grid0.coords t 1

theorem index_rows : ∀ t : Fin cfg0.N,
    win0_0.index t = ![(image t).val, (cellRow (half t) 0).val, 0, 0] ∧ win0_1.index t = ![(image t).val, (cellRow (half t) 1).val, 0, 0]
    ∧ win0_2.index t = ![(image t).val, (cellRow (half t) 2).val, 0, 0] ∧ win0_3.index t = ![(image t).val, (cellRow (half t) 3).val, 0, 0]
    ∧ win0_4.index t = ![(image t).val, (cellRow (half t) 4).val, 0, 0] ∧ win0_5.index t = ![(image t).val, (cellRow (half t) 5).val, 0, 0]
    ∧ win0_6.index t = ![(image t).val, (cellRow (half t) 6).val, 0, 0] ∧ win0_7.index t = ![(image t).val, (cellRow (half t) 7).val, 0, 0]
    ∧ win0_8.index t = ![(image t).val, (cellRow (half t) 8).val, 0, 0] ∧ win0_9.index t = ![(image t).val, (cellRow (half t) 9).val, 0, 0] :=
  (by decide +kernel : ∀ t : Fin grid0.N, _)

theorem index_columns : ∀ t : Fin cfg0.N, win0_10.index t = ![0, 0] := (by decide +kernel : ∀ t : Fin grid0.N, _)
theorem index_guide : ∀ t : Fin cfg0.N, win0_11.index t = ![(image t).val, 0, (half t).val, 0] :=
  (by decide +kernel : ∀ t : Fin grid0.N, _)
theorem index_out : ∀ t : Fin cfg0.N, win0_12.index t = ![(image t).val, 0, (half t).val, 0] :=
  (by decide +kernel : ∀ t : Fin grid0.N, _)

section
variable {F : FTy → Type} [FloatOps F]
variable (m : (ℓ : Loc nD τ sig) → Buf (Elt F) ℓ) (c : Dev nD) (t : Fin cfg0.N)

/-- The ten blocks of cell rows that a grid point reads. -/
def rows : Fin 10 → Vec F S1x1x96x16 .bf16 :=
  ![iblk m c 0 t, iblk m c 1 t, iblk m c 2 t, iblk m c 3 t, iblk m c 4 t, iblk m c 5 t, iblk m c 6 t, iblk m c 7 t, iblk m c 8 t,
    iblk m c 9 t]

set_option maxHeartbeats 4000000 in
/-- The blocks of cell rows, at an index. -/
theorem rows_apply (k : Fin 10) (r : Fin 96) (a : Fin 16) :
    rows m c t k (ix4 0 0 r a) = grid (m ((c : Thread nD τ).loc main_arg0)) (ix4 (image t) (cellRow (half t) k) r a) := by
  obtain ⟨e0, e1, e2, e3, e4, e5, e6, e7, e8, e9⟩ := index_rows t
  rw [← V_grid m c]
  unfold rows
  fin_cases k
  all_goals
    dsimp only [Matrix.cons_val, Fin.isValue]
    blk_simp [iblk]
    congr 1
    blk_ext [e0, e1, e2, e3, e4, e5, e6, e7, e8, e9]

/-- The block of the column matrix is the matrix. -/
theorem columns_block : iblk m c 10 t = columns := by
  rw [← V_columns m c]
  funext y
  blk_simp [iblk]
  congr 1
  blk_ext [index_columns t]

/-- The guide's block, at an index. -/
theorem guide_apply (h : Fin 256) (p : Fin 512) (r : Fin 512) (hr : r.val = 256 * (half t).val + h.val) :
    iblk m c 11 t (ix4 0 0 h p) = m ((c : Thread nD τ).loc main_arg1) (ix4 (image t) 0 r p) := by
  rw [← V_main_arg1 m c]
  blk_simp [iblk]
  congr 1
  blk_ext [index_guide t]
end

/-! ## The result array -/

/-- The slice of every image, channel and pixel. -/
def sliced (x0 : FVec Ideal S4x12x8x16x16 .f32) (x1 : FVec Ideal S4x1x512x512 .f32) : FVec Ideal S4x12x512x512 .f32 := fun i =>
  slice (fun y x z => x0 (ix5 (i 0) (i 1) z y x)) (i 2) (i 3) (8 * (x1 (ix4 (i 0) 0 (i 2) (i 3)) : EReal).toReal - 1 / 2)

variable (m : (ℓ : Loc nD τ sig) → Buf (Elt Ideal) ℓ) (c : Dev nD)

/-- What a grid point leaves in its block, at an index. -/
theorem point_apply (x1 : FVec Ideal S4x1x512x512 .f32) (h1 : x1 = m ((c : Thread nD τ).loc main_arg1))
    (hx : ∀ i, x1 i = (((x1 i : EReal).toReal : ℝ) : EReal)) (t : Fin cfg0.N) (k : Fin 12)
    (q j : Fin 16) (p : Fin 512) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix4 0 k (row q j) p)
      = sliced (m ((c : Thread nD τ).loc main_arg0)) x1 (ix4 (image t) k (pixel (half t) q j) p) := by
  have hg : iblk m c 11 t (ix4 0 0 (row q j) p)
      = (((x1 (ix4 (image t) 0 (pixel (half t) q j) p) : EReal).toReal : ℝ) : EReal) := by
    rw [← hx, h1]
    refine guide_apply m c t (row q j) p (pixel (half t) q j) ?_
    show 256 * (half t).val + 16 * q.val + j.val = 256 * (half t).val + (16 * q.val + j.val)
    omega
  rw [out_apply_of]
  change piece (rows m c t) _ _ _ _ _ = _
  rw [columns_block, piece_apply (rows m c t) (iblk m c 11 t) (half t) q k j p _ hg]
  simp only [rows_apply, cellRow_rowOf (half t) q j, cellRow_rowBelow (half t) q j, grid_apply]
  exact slice_eq (fun y x z => m ((c : Thread nD τ).loc main_arg0) (ix5 (image t) k z y x)) (pixel (half t) q j) p _

/-- The kernel's result array holds the slice at every index, when every entry of the guide is a real number. -/
theorem kernel_result (x1 : FVec Ideal S4x1x512x512 .f32) (h1 : x1 = m ((c : Thread nD τ).loc main_arg1))
    (hx : ∀ i, x1 i = (((x1 i : EReal).toReal : ℝ) : EReal)) :
    (dats m 0 c).arrAt 12 cfg0.N = sliced (m ((c : Thread nD τ).loc main_arg0)) x1 := by
  refine (dats m 0 c).arrAt_eq_of_covers 12 _ (by decide +kernel) fun t hf y => ?_
  blk_simp
  rw [after0_12]
  obtain ⟨k, h, p, rfl⟩ : ∃ (k : Fin 12) (h : Fin 256) (p : Fin 512), y = (ix4 0 k h p : S1x12x256x512.Idx) :=
    ⟨y 1, y 2, y 3, (eq_ix4 y).trans (by congr 1; exact Subsingleton.elim (α := Fin 1) _ _)⟩
  obtain ⟨q, j, rfl⟩ : ∃ q j : Fin 16, h = row q j :=
    ⟨⟨h.val / 16, by omega⟩, ⟨h.val % 16, by omega⟩, Fin.ext (by show h.val = 16 * (h.val / 16) + h.val % 16; omega)⟩
  refine (point_apply m c x1 h1 hx t k q j p).trans (congrArg _ ?_)
  have hp : (pixel (half t) q j).val = 256 * (half t).val + (16 * q.val + j.val) := Nat.add_assoc _ _ _
  have hr : (row q j).val = 16 * q.val + j.val := rfl
  blk_ext [index_out t, hp, hr]

end Cert.Slice
-- ==== Proof.Guide.lean ====
/-
  What the precondition says of a guide: every entry is a real number, and its depth leaves room for one more cell among
  the 32-bit signed words.
-/
module

public import proofs.«01_k».proof.Proof.Gen.Pre_guide_in_range
public import Idealize.ShloMosaic.PureOps.Ideal
public import Idealize.ShloMosaic.PureOps.Ideal.Laws

@[expose] public section

noncomputable section

namespace Cert.Slice

open Cert.Pre_guide_in_range Idealize.ShloMosaic

theorem word_bottom : Ideal.ofBits .f32 0xFF800000#32 = ⊥ := by
  simp [Ideal.ofBits, Ideal.ieee]

/-- The greatest guide value allowed: `2 ^ 28 - 16`. -/
theorem word_greatest : Ideal.ofBits .f32 0x4D7FFFFF#32 = ((268435440 : ℝ) : EReal) := by
  simp [Ideal.ofBits, Ideal.ieee, -EReal.coe_mul]; norm_num

/-- The precondition, at an index. -/
theorem guide_bounds (x0 : FVec Ideal S4x12x8x16x16 .f32) (x1 : FVec Ideal S4x1x512x512 .f32)
    (h : Cert.Pre_guide_in_range.fn (F := Ideal) x0 x1 = fun _ => 1#1) (i : S4x1x512x512.Idx) :
    (⊥ : EReal) < x1 i ∧ (x1 i : EReal) ≤ ((268435440 : ℝ) : EReal) := by
  have e : IntOp.andi (Ideal.cmp .ogt (x1 i) (Ideal.ofBits .f32 0xFF800000#32))
      (Ideal.cmp .ole (x1 i) (Ideal.ofBits .f32 0x4D7FFFFF#32)) = 1#1 := congrFun h i
  rw [word_bottom, word_greatest] at e
  unfold Ideal.cmp at e
  by_cases h1 : (⊥ : EReal) < x1 i <;> by_cases h2 : (x1 i : EReal) ≤ ((268435440 : ℝ) : EReal)
  · exact ⟨h1, h2⟩
  all_goals
    simp only [h1, h2, decide_true, decide_false] at e
    exact absurd e (by decide)

/-- Every entry is a real number. -/
theorem guide_real (x0 : FVec Ideal S4x12x8x16x16 .f32) (x1 : FVec Ideal S4x1x512x512 .f32)
    (h : Cert.Pre_guide_in_range.fn (F := Ideal) x0 x1 = fun _ => 1#1) (i : S4x1x512x512.Idx) :
    x1 i = (((x1 i : EReal).toReal : ℝ) : EReal) := by
  obtain ⟨h1, h2⟩ := guide_bounds x0 x1 h i
  exact (EReal.coe_toReal (h2.trans_lt (EReal.coe_lt_top _)).ne h1.ne').symm

/-- The cell above every entry's depth has a number below `2 ^ 31`. -/
theorem guide_floor (x0 : FVec Ideal S4x12x8x16x16 .f32) (x1 : FVec Ideal S4x1x512x512 .f32)
    (h : Cert.Pre_guide_in_range.fn (F := Ideal) x0 x1 = fun _ => 1#1) (i : S4x1x512x512.Idx) :
    ⌊8 * (x1 i : EReal).toReal - 1 / 2⌋ < 2 ^ 31 - 1 := by
  have h2 := (guide_bounds x0 x1 h i).2
  rw [guide_real x0 x1 h i] at h2
  have h3 : (x1 i : EReal).toReal ≤ 268435440 := EReal.coe_le_coe_iff.1 h2
  rw [Int.floor_lt]
  push_cast
  linarith

end Cert.Slice
-- ==== Proof.lean ====
/-
  The certificate of the bilateral-grid slice: the kernel and both idealized programs run without fault, leave their
  arguments unchanged and every semaphore at zero; the idealized kernel is the kernel's own text; and the idealized kernel
  computes what the reference computes, on every guide that the precondition allows.

  `Proof/Math.lean` has the mathematics apart from any program. `Proof/Position.lean`, `Proof/Corner.lean` and
  `Proof/Reference.lean` read the reference at an index. `Proof/Arrays.lean` reads the arrays that the host prepares for the
  kernel, `Proof/Body.lean`, `Proof/Read.lean` and `Proof/Tiles.lean` the kernel's body over its blocks, and
  `Proof/Blocks.lean` the kernel's result array. `Proof/Guide.lean` opens the precondition. This file puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_guide_in_range
public import proofs.«01_k».proof.Proof.Reference
public import proofs.«01_k».proof.Proof.Blocks
public import proofs.«01_k».proof.Proof.Guide
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and has no semaphore that could end above zero. -/
theorem reference_frame
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- On a guide that the precondition allows, the reference computes the slice at every index. -/
theorem reference_result (x0 : FVec Ideal Cert.KernelIdeal.S4x12x8x16x16 .f32) (x1 : FVec Ideal Cert.KernelIdeal.S4x1x512x512 .f32)
    (h : Cert.Pre_guide_in_range.fn (F := Ideal) x0 x1 = fun _ => 1#1) :
    Cert.ReferenceIdeal.Read.val_main_v368 (F := Ideal) x0 x1 = Cert.Slice.sliced x0 x1 := by
  funext i
  obtain ⟨b, k, r, q, rfl⟩ : ∃ (b : Fin 4) (k : Fin 12) (r q : Fin 512), i = (ix4 b k r q : Cert.KernelIdeal.S4x12x512x512.Idx) :=
    ⟨i 0, i 1, i 2, i 3, eq_ix4 i⟩
  exact Cert.Slice.reference_apply x0 (Cert.Slice.guide_real x0 x1 h (ix4 b 0 r q)) (Cert.Slice.guide_floor x0 x1 h (ix4 b 0 r q)) k

/-- The kernel and the reference, run from memories that agree on the arguments, end with the same result, the slice. -/
theorem value : Cert.algebraic_KernelIdeal_ReferenceIdeal_pre_guide_in_range (hKernelIdeal := Cert.KernelIdeal.Gen.facts)
    (hReferenceIdeal := Cert.ReferenceIdeal.Gen.facts) (hPre_guide_in_range := Cert.Pre_guide_in_range.Gen.facts) := by
  intro m g m' g' hpre hagree
  refine ⟨fun c => Cert.Slice.sliced (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run_blocks (F := Ideal) m g)
    exact Cert.Slice.kernel_result m c _ rfl (Cert.Slice.guide_real _ _ (hpre c))
  · refine (θ_run Cert.ReferenceIdeal.defs _ _).mono (fun r h c => ⟨(h c).1.trans ?_, (h c).2⟩)
      (Cert.ReferenceIdeal.Value.run (F := Ideal) m' g')
    rw [Cert.ReferenceIdeal.Read.val_main_v368_eq, StableHlo.launchContents_devRef, StableHlo.launchContents_devRef,
      (hagree c).1, (hagree c).2]
    exact reference_result _ _ (hpre c)

theorem claim : Cert.Claim :=
  ⟨Cert.Kernel.Gen.facts, Cert.KernelIdeal.Gen.facts, Cert.ReferenceIdeal.Gen.facts, Cert.Pre_guide_in_range.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, value⟩

end Cert.Proof

end
